-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_are_normal [hPre_scales_are_normal : Cert.Pre_scales_are_normal.Facts] (m : (ℓ : Loc Cert.KernelIdeal.nD Cert.KernelIdeal.τ Cert.KernelIdeal.sig) → Buf (Elt Ideal) ℓ) : Prop :=
  ∀ c : Dev Cert.KernelIdeal.nD,
    (Cert.Pre_scales_are_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_scales_are_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_scales_are_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_are_normal [hPre_scales_are_normal : Cert.Pre_scales_are_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_are_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_scales_are_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_scales_are_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_are_normal [hKernelIdeal : Cert.KernelIdeal.Facts] [hPre_scales_are_normal : Cert.Pre_scales_are_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_are_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_are_normal [hReferenceIdeal : Cert.ReferenceIdeal.Facts] [hPre_scales_are_normal : Cert.Pre_scales_are_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_are_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)
  ∧ IdealRules.named_const.Statement Cert.KernelIdeal.κ "masked" .f32 0xF149F2CA#32 ⊥
  ∧ IdealRules.named_const.Statement Cert.KernelIdeal.κ "inv_fp8_max" .f32 0x3B124925#32 ((1 / 448 : ℝ) : EReal)

def algebraic_KernelIdeal_ReferenceIdeal_pre_scales_are_normal [hKernelIdeal : Cert.KernelIdeal.Facts] [hReferenceIdeal : Cert.ReferenceIdeal.Facts] [hPre_scales_are_normal : Cert.Pre_scales_are_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_are_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_are_normal : Cert.Pre_scales_are_normal.Facts),
    quiescent_Kernel (hKernel := hKernel)
    ∧ quiescent_KernelIdeal (hKernelIdeal := hKernelIdeal)
    ∧ quiescent_KernelIdeal_pre_scales_are_normal (hKernelIdeal := hKernelIdeal) (hPre_scales_are_normal := hPre_scales_are_normal)
    ∧ quiescent_ReferenceIdeal (hReferenceIdeal := hReferenceIdeal)
    ∧ quiescent_ReferenceIdeal_pre_scales_are_normal (hReferenceIdeal := hReferenceIdeal) (hPre_scales_are_normal := hPre_scales_are_normal)
    ∧ preserves_Kernel_KernelIdeal
    ∧ algebraic_KernelIdeal_ReferenceIdeal_pre_scales_are_normal (hKernelIdeal := hKernelIdeal) (hReferenceIdeal := hReferenceIdeal) (hPre_scales_are_normal := hPre_scales_are_normal)
-- ==== Pre_scales_are_normal.lean ====
abbrev S2x40x12288x128 : Shape := ⟨4, ![2, 40, 12288, 128]⟩
abbrev S2x40x12288x4 : Shape := ⟨4, ![2, 40, 12288, 4]⟩
abbrev S2x8x12288x128 : Shape := ⟨4, ![2, 8, 12288, 128]⟩
abbrev S2x8x12288x4 : Shape := ⟨4, ![2, 8, 12288, 4]⟩
abbrev S2x8x128x12288 : Shape := ⟨4, ![2, 8, 128, 12288]⟩
abbrev S2x8x128x384 : Shape := ⟨4, ![2, 8, 128, 384]⟩
abbrev S_ : Shape := ⟨0, ![]⟩

class Facts : Prop where
  bcast_S_S2x40x12288x4 : S_.BroadcastsInDim S2x40x12288x4 (![] : Fin 0 → Fin S2x40x12288x4.rank)
  bcast_S_S2x8x12288x4 : S_.BroadcastsInDim S2x8x12288x4 (![] : Fin 0 → Fin S2x8x12288x4.rank)
  bcast_S_S2x8x128x384 : S_.BroadcastsInDim S2x8x128x384 (![] : Fin 0 → Fin S2x8x128x384.rank)

variable [Facts]

def fn {F : FTy → Type} [FloatOps F] (main_arg0 : FVec F S2x40x12288x128 .fp8e4m3) (main_arg1 : IVec S2x40x12288x4 8) (main_arg2 : FVec F S2x8x12288x128 .fp8e4m3) (main_arg3 : IVec S2x8x12288x4 8) (main_arg4 : FVec F S2x8x128x12288 .fp8e4m3) (main_arg5 : IVec S2x8x128x384 8) : IVec S2x40x12288x4 1 × IVec S2x8x12288x4 1 × IVec S2x8x128x384 1 :=
  let main_c : IVec S_ 8 := constantI S_ 8 0#8
  let main_v0 : IVec S2x40x12288x4 8 := broadcastInDim S2x40x12288x4 ![] bcast_S_S2x40x12288x4 main_c
  let main_v1 : IVec S2x40x12288x4 1 := cmpi .ugt main_arg1 main_v0
  let main_c_0 : IVec S_ 8 := constantI S_ 8 255#8
  let main_v2 : IVec S2x40x12288x4 8 := broadcastInDim S2x40x12288x4 ![] bcast_S_S2x40x12288x4 main_c_0
  let main_v3 : IVec S2x40x12288x4 1 := cmpi .ult main_arg1 main_v2
  let main_v4 : IVec S2x40x12288x4 1 := andi main_v1 main_v3
  let main_c_1 : IVec S_ 8 := constantI S_ 8 0#8
  let main_v5 : IVec S2x8x12288x4 8 := broadcastInDim S2x8x12288x4 ![] bcast_S_S2x8x12288x4 main_c_1
  let main_v6 : IVec S2x8x12288x4 1 := cmpi .ugt main_arg3 main_v5
  let main_c_2 : IVec S_ 8 := constantI S_ 8 255#8
  let main_v7 : IVec S2x8x12288x4 8 := broadcastInDim S2x8x12288x4 ![] bcast_S_S2x8x12288x4 main_c_2
  let main_v8 : IVec S2x8x12288x4 1 := cmpi .ult main_arg3 main_v7
  let main_v9 : IVec S2x8x12288x4 1 := andi main_v6 main_v8
  let main_c_3 : IVec S_ 8 := constantI S_ 8 0#8
  let main_v10 : IVec S2x8x128x384 8 := broadcastInDim S2x8x128x384 ![] bcast_S_S2x8x128x384 main_c_3
  let main_v11 : IVec S2x8x128x384 1 := cmpi .ugt main_arg5 main_v10
  let main_c_4 : IVec S_ 8 := constantI S_ 8 255#8
  let main_v12 : IVec S2x8x128x384 8 := broadcastInDim S2x8x128x384 ![] bcast_S_S2x8x128x384 main_c_4
  let main_v13 : IVec S2x8x128x384 1 := cmpi .ult main_arg5 main_v12
  let main_v14 : IVec S2x8x128x384 1 := andi main_v11 main_v13
  (main_v4, main_v9, main_v14)
-- ==== Kernel.lean ====
abbrev S2x40x12288x128 : Shape := ⟨4, ![2, 40, 12288, 128]⟩
abbrev S2x40x12288x4 : Shape := ⟨4, ![2, 40, 12288, 4]⟩
abbrev S2x8x12288x128 : Shape := ⟨4, ![2, 8, 12288, 128]⟩
abbrev S2x8x12288x4 : Shape := ⟨4, ![2, 8, 12288, 4]⟩
abbrev S2x8x128x12288 : Shape := ⟨4, ![2, 8, 128, 12288]⟩
abbrev S2x8x128x384 : Shape := ⟨4, ![2, 8, 128, 384]⟩
abbrev S2x8x128x48x8 : Shape := ⟨5, ![2, 8, 128, 48, 8]⟩
abbrev S2x8x48x128x8 : Shape := ⟨5, ![2, 8, 48, 128, 8]⟩
abbrev S1x1x256x128 : Shape := ⟨4, ![1, 1, 256, 128]⟩
abbrev S1x1x256x4 : Shape := ⟨4, ![1, 1, 256, 4]⟩
abbrev S1x1x12288x128 : Shape := ⟨4, ![1, 1, 12288, 128]⟩
abbrev S1x1x12288x4 : Shape := ⟨4, ![1, 1, 12288, 4]⟩
abbrev S1x1x128x12288 : Shape := ⟨4, ![1, 1, 128, 12288]⟩
abbrev S1x1x48x128x8 : Shape := ⟨5, ![1, 1, 48, 128, 8]⟩
abbrev S12288x128 : Shape := ⟨2, ![12288, 128]⟩
abbrev S48x128x256 : Shape := ⟨3, ![48, 128, 256]⟩
abbrev S48x32x8x256 : Shape := ⟨4, ![48, 32, 8, 256]⟩
abbrev S48x8x256 : Shape := ⟨3, ![48, 8, 256]⟩
abbrev S48x16x256 : Shape := ⟨3, ![48, 16, 256]⟩
abbrev S256x256 : Shape := ⟨2, ![256, 256]⟩
abbrev S8x256 : Shape := ⟨2, ![8, 256]⟩
abbrev S4x128 : Shape := ⟨2, ![4, 128]⟩
abbrev S256x128 : Shape := ⟨2, ![256, 128]⟩
abbrev S256x4 : Shape := ⟨2, ![256, 4]⟩
abbrev S1x1x128x256 : Shape := ⟨4, ![1, 1, 128, 256]⟩
abbrev S128x256 : Shape := ⟨2, ![128, 256]⟩
abbrev S1x1x1x128x8 : Shape := ⟨5, ![1, 1, 1, 128, 8]⟩
abbrev S128x8 : Shape := ⟨2, ![128, 8]⟩
abbrev S1x128x256 : Shape := ⟨3, ![1, 128, 256]⟩
abbrev S32x8x256 : Shape := ⟨3, ![32, 8, 256]⟩
abbrev S1x8x256 : Shape := ⟨3, ![1, 8, 256]⟩
abbrev S1x32x8x256 : Shape := ⟨4, ![1, 32, 8, 256]⟩
abbrev S256 : Shape := ⟨1, ![256]⟩
abbrev S1x256 : Shape := ⟨2, ![1, 256]⟩
abbrev S16x256 : Shape := ⟨2, ![16, 256]⟩
abbrev S1x16x256 : Shape := ⟨3, ![1, 16, 256]⟩
abbrev S16x16x256 : Shape := ⟨3, ![16, 16, 256]⟩

abbrev nBuf : Space → Nat
  | .hbm => 9
  | .vmem => 21
  | .smem => 0
  | _ => 0

abbrev bufTy : (tb : Table) → Fin (tcTables nBuf tb) → BufTy
  | .hbm, ⟨0, _⟩ => ⟨S2x40x12288x128, .fp8e4m3⟩
  | .hbm, ⟨1, _⟩ => ⟨S2x40x12288x4, .i8⟩
  | .hbm, ⟨2, _⟩ => ⟨S2x8x12288x128, .fp8e4m3⟩
  | .hbm, ⟨3, _⟩ => ⟨S2x8x12288x4, .i8⟩
  | .hbm, ⟨4, _⟩ => ⟨S2x8x128x12288, .fp8e4m3⟩
  | .hbm, ⟨5, _⟩ => ⟨S2x8x128x384, .i8⟩
  | .hbm, ⟨6, _⟩ => ⟨S2x8x128x48x8, .i8⟩
  | .hbm, ⟨7, _⟩ => ⟨S2x8x48x128x8, .i8⟩
  | .hbm, ⟨8, _⟩ => ⟨S2x40x12288x128, .bf16⟩
  | .local _ .vmem, ⟨0, _⟩ => ⟨S1x1x256x128, .fp8e4m3⟩
  | .local _ .vmem, ⟨1, _⟩ => ⟨S1x1x256x128, .fp8e4m3⟩
  | .local _ .vmem, ⟨2, _⟩ => ⟨S1x1x256x4, .i8⟩
  | .local _ .vmem, ⟨3, _⟩ => ⟨S1x1x256x4, .i8⟩
  | .local _ .vmem, ⟨4, _⟩ => ⟨S1x1x12288x128, .fp8e4m3⟩
  | .local _ .vmem, ⟨5, _⟩ => ⟨S1x1x12288x128, .fp8e4m3⟩
  | .local _ .vmem, ⟨6, _⟩ => ⟨S1x1x12288x4, .i8⟩
  | .local _ .vmem, ⟨7, _⟩ => ⟨S1x1x12288x4, .i8⟩
  | .local _ .vmem, ⟨8, _⟩ => ⟨S1x1x128x12288, .fp8e4m3⟩
  | .local _ .vmem, ⟨9, _⟩ => ⟨S1x1x128x12288, .fp8e4m3⟩
  | .local _ .vmem, ⟨10, _⟩ => ⟨S1x1x48x128x8, .i8⟩
  | .local _ .vmem, ⟨11, _⟩ => ⟨S1x1x48x128x8, .i8⟩
  | .local _ .vmem, ⟨12, _⟩ => ⟨S1x1x256x128, .bf16⟩
  | .local _ .vmem, ⟨13, _⟩ => ⟨S1x1x256x128, .bf16⟩
  | .local _ .vmem, ⟨14, _⟩ => ⟨S12288x128, .bf16⟩
  | .local _ .vmem, ⟨15, _⟩ => ⟨S48x128x256, .bf16⟩
  | .local _ .vmem, ⟨16, _⟩ => ⟨S48x32x8x256, .f32⟩
  | .local _ .vmem, ⟨17, _⟩ => ⟨S48x8x256, .f32⟩
  | .local _ .vmem, ⟨18, _⟩ => ⟨S48x8x256, .f32⟩
  | .local _ .vmem, ⟨19, _⟩ => ⟨S48x8x256, .f32⟩
  | .local _ .vmem, ⟨20, _⟩ => ⟨S48x16x256, .bf16⟩
  | _, _ => ⟨S2x40x12288x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨4, ![2, 8, 5, 48], ![false, false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let arg3 : BitVec 32 := BitVec.ofNat 32 (i 3).val
  let c0_i32_0 : BitVec 32 := 0#32
  let v1 : BitVec 1 := Scalar.cmpi .eq arg3 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_100 : BitVec 32 := 0#32
  let c48_i32 : BitVec 32 := 48#32
  let v275 : BitVec 32 := Scalar.addi c0_i32_100 c48_i32
  let c1_i32_101 : BitVec 32 := 1#32
  ⟨c0_i32_100, v275, c1_i32_101⟩
def k0_off1 (k0_t1 : Fin k0_t1_loop.trips) : Fin 4 → Nat :=
  let c0_104 : Index := 0#32
  let c0_105 : Index := 0#32
  let c0_i32_100 : BitVec 32 := 0#32
  let c1_i32_101 : BitVec 32 := 1#32
  let arg18 : BitVec 32 := Scf.iv c0_i32_100 c1_i32_101 k0_t1
  let c256_i32_103 : BitVec 32 := 256#32
  let v276 : BitVec 32 := Scalar.muli arg18 c256_i32_103
  let v277 : Index := Scalar.indexCast v276
  let c0_106 : Index := 0#32
  ![0, 0, v277.toNat, 0]
def k0_off2 (k0_t1 : Fin k0_t1_loop.trips) : Fin 4 → Nat :=
  let c0_108 : Index := 0#32
  let c0_109 : Index := 0#32
  let c0_i32_100 : BitVec 32 := 0#32
  let c1_i32_101 : BitVec 32 := 1#32
  let arg18 : BitVec 32 := Scf.iv c0_i32_100 c1_i32_101 k0_t1
  let c256_i32_107 : BitVec 32 := 256#32
  let v281 : BitVec 32 := Scalar.muli arg18 c256_i32_107
  let v282 : Index := Scalar.indexCast v281
  let c0_110 : Index := 0#32
  ![0, 0, v282.toNat, 0]
def k0_off3 (k0_t1 : Fin k0_t1_loop.trips) : Fin 2 → Nat :=
  let c0_i32_100 : BitVec 32 := 0#32
  let c1_i32_101 : BitVec 32 := 1#32
  let arg18 : BitVec 32 := Scf.iv c0_i32_100 c1_i32_101 k0_t1
  let c256_i32_114 : BitVec 32 := 256#32
  let v298 : BitVec 32 := Scalar.muli arg18 c256_i32_114
  let v299 : Index := Scalar.indexCast v298
  let c0_115 : Index := 0#32
  ![v299.toNat, 0]
def k0_off4 (k0_t1 : Fin k0_t1_loop.trips) : Fin 4 → Nat :=
  let c0_117 : Index := 0#32
  let c0_118 : Index := 0#32
  let c0_119 : Index := 0#32
  let c0_i32_100 : BitVec 32 := 0#32
  let c1_i32_101 : BitVec 32 := 1#32
  let arg18 : BitVec 32 := Scf.iv c0_i32_100 c1_i32_101 k0_t1
  let c256_i32_116 : BitVec 32 := 256#32
  let v303 : BitVec 32 := Scalar.muli arg18 c256_i32_116
  let v304 : Index := Scalar.indexCast v303
  ![0, 0, 0, v304.toNat]
def k0_off5 (k0_t1 : Fin k0_t1_loop.trips) : Fin 5 → Nat :=
  let c0_121 : Index := 0#32
  let c0_122 : Index := 0#32
  let c0_i32_100 : BitVec 32 := 0#32
  let c1_i32_101 : BitVec 32 := 1#32
  let arg18 : BitVec 32 := Scf.iv c0_i32_100 c1_i32_101 k0_t1
  let v309 : Index := Scalar.indexCast arg18
  let c0_123 : Index := 0#32
  let c0_124 : Index := 0#32
  ![0, 0, v309.toNat, 0, 0]
def k0_off6 (k0_t1 : Fin k0_t1_loop.trips) : Fin 3 → Nat :=
  let c0_i32_100 : BitVec 32 := 0#32
  let c1_i32_101 : BitVec 32 := 1#32
  let arg18 : BitVec 32 := Scf.iv c0_i32_100 c1_i32_101 k0_t1
  let v322 : Index := Scalar.indexCast arg18
  let c0_127 : Index := 0#32
  let c0_128 : Index := 0#32
  ![v322.toNat, 0, 0]
@[reducible] def k0_t2_loop (i : grid0.Coords) : Scf.Loop 32 :=
  let c0_i32_14 : BitVec 32 := 0#32
  let arg3 : BitVec 32 := BitVec.ofNat 32 (i 3).val
  let v51 : BitVec 32 := Scalar.subi arg3 c0_i32_14
  let c1_i32_16 : BitVec 32 := 1#32
  let v53 : BitVec 32 := Scalar.divsi v51 c1_i32_16
  let v54 : BitVec 32 := Scalar.muli v53 c1_i32_16
  let v55 : BitVec 32 := Scalar.addi c0_i32_14 v54
  let c1_i32_17 : BitVec 32 := 1#32
  ⟨c0_i32_14, v55, c1_i32_17⟩
def k0_off7 (i : grid0.Coords) (k0_t2 : Fin (k0_t2_loop i).trips) : Fin 2 → Nat :=
  let c0_i32_14 : BitVec 32 := 0#32
  let c1_i32_17 : BitVec 32 := 1#32
  let arg18 : BitVec 32 := Scf.iv c0_i32_14 c1_i32_17 k0_t2
  let c256_i32_73 : BitVec 32 := 256#32
  let v174 : BitVec 32 := Scalar.muli arg18 c256_i32_73
  let v175 : Index := Scalar.indexCast v174
  let c0_74 : Index := 0#32
  ![v175.toNat, 0]
def k0_off8 (i : grid0.Coords) (k0_t2 : Fin (k0_t2_loop i).trips) : Fin 4 → Nat :=
  let c0_i32_14 : BitVec 32 := 0#32
  let c1_i32_17 : BitVec 32 := 1#32
  let arg18 : BitVec 32 := Scf.iv c0_i32_14 c1_i32_17 k0_t2
  let v186 : Index := Scalar.indexCast arg18
  let c0_78 : Index := 0#32
  let c0_79 : Index := 0#32
  let c0_80 : Index := 0#32
  ![v186.toNat, 0, 0, 0]
def k0_off9 (i : grid0.Coords) (k0_t2 : Fin (k0_t2_loop i).trips) : Fin 3 → Nat :=
  let c0_i32_14 : BitVec 32 := 0#32
  let c1_i32_17 : BitVec 32 := 1#32
  let arg18 : BitVec 32 := Scf.iv c0_i32_14 c1_i32_17 k0_t2
  let v190 : Index := Scalar.indexCast arg18
  let c0_81 : Index := 0#32
  let c0_82 : Index := 0#32
  ![v190.toNat, 0, 0]
@[reducible] def k0_t3_loop (i : grid0.Coords) : Scf.Loop 32 :=
  let c0_i32_14 : BitVec 32 := 0#32
  let arg3 : BitVec 32 := BitVec.ofNat 32 (i 3).val
  let v51 : BitVec 32 := Scalar.subi arg3 c0_i32_14
  let c1_i32_16 : BitVec 32 := 1#32
  let v53 : BitVec 32 := Scalar.divsi v51 c1_i32_16
  let v54 : BitVec 32 := Scalar.muli v53 c1_i32_16
  let v55 : BitVec 32 := Scalar.addi c0_i32_14 v54
  let v52 : BitVec 32 := Scalar.addi c0_i32_14 v51
  let c1_i32_18 : BitVec 32 := 1#32
  ⟨v55, v52, c1_i32_18⟩
def k0_off10 (i : grid0.Coords) (k0_t3 : Fin (k0_t3_loop i).trips) : Fin 2 → Nat :=
  let c0_i32_14 : BitVec 32 := 0#32
  let arg3 : BitVec 32 := BitVec.ofNat 32 (i 3).val
  let v51 : BitVec 32 := Scalar.subi arg3 c0_i32_14
  let c1_i32_16 : BitVec 32 := 1#32
  let v53 : BitVec 32 := Scalar.divsi v51 c1_i32_16
  let v54 : BitVec 32 := Scalar.muli v53 c1_i32_16
  let v55 : BitVec 32 := Scalar.addi c0_i32_14 v54
  let c1_i32_18 : BitVec 32 := 1#32
  let arg18 : BitVec 32 := Scf.iv v55 c1_i32_18 k0_t3
  let c256_i32_73 : BitVec 32 := 256#32
  let v174 : BitVec 32 := Scalar.muli arg18 c256_i32_73
  let v175 : Index := Scalar.indexCast v174
  let c0_74 : Index := 0#32
  ![v175.toNat, 0]
def k0_off11 (i : grid0.Coords) (k0_t3 : Fin (k0_t3_loop i).trips) : Fin 4 → Nat :=
  let c0_i32_14 : BitVec 32 := 0#32
  let arg3 : BitVec 32 := BitVec.ofNat 32 (i 3).val
  let v51 : BitVec 32 := Scalar.subi arg3 c0_i32_14
  let c1_i32_16 : BitVec 32 := 1#32
  let v53 : BitVec 32 := Scalar.divsi v51 c1_i32_16
  let v54 : BitVec 32 := Scalar.muli v53 c1_i32_16
  let v55 : BitVec 32 := Scalar.addi c0_i32_14 v54
  let c1_i32_18 : BitVec 32 := 1#32
  let arg18 : BitVec 32 := Scf.iv v55 c1_i32_18 k0_t3
  let v186 : Index := Scalar.indexCast arg18
  let c0_78 : Index := 0#32
  let c0_79 : Index := 0#32
  let c0_80 : Index := 0#32
  ![v186.toNat, 0, 0, 0]
def k0_off12 (i : grid0.Coords) (k0_t3 : Fin (k0_t3_loop i).trips) : Fin 3 → Nat :=
  let c0_i32_14 : BitVec 32 := 0#32
  let arg3 : BitVec 32 := BitVec.ofNat 32 (i 3).val
  let v51 : BitVec 32 := Scalar.subi arg3 c0_i32_14
  let c1_i32_16 : BitVec 32 := 1#32
  let v53 : BitVec 32 := Scalar.divsi v51 c1_i32_16
  let v54 : BitVec 32 := Scalar.muli v53 c1_i32_16
  let v55 : BitVec 32 := Scalar.addi c0_i32_14 v54
  let c1_i32_18 : BitVec 32 := 1#32
  let arg18 : BitVec 32 := Scf.iv v55 c1_i32_18 k0_t3
  let v190 : Index := Scalar.indexCast arg18
  let c0_81 : Index := 0#32
  let c0_82 : Index := 0#32
  ![v190.toNat, 0, 0]
def k0_off13 (i : grid0.Coords) : Fin 2 → Nat :=
  let arg3 : BitVec 32 := BitVec.ofNat 32 (i 3).val
  let c256_i32 : BitVec 32 := 256#32
  let v104 : BitVec 32 := Scalar.muli arg3 c256_i32
  let v105 : Index := Scalar.indexCast v104
  let c0_32 : Index := 0#32
  ![v105.toNat, 0]
def k0_off14 (i : grid0.Coords) : Fin 4 → Nat :=
  let arg3 : BitVec 32 := BitVec.ofNat 32 (i 3).val
  let v118 : Index := Scalar.indexCast arg3
  let c0_37 : Index := 0#32
  let c0_38 : Index := 0#32
  let c0_39 : Index := 0#32
  ![v118.toNat, 0, 0, 0]
def k0_off15 (i : grid0.Coords) : Fin 3 → Nat :=
  let arg3 : BitVec 32 := BitVec.ofNat 32 (i 3).val
  let v122 : Index := Scalar.indexCast arg3
  let c0_40 : Index := 0#32
  let c0_41 : Index := 0#32
  ![v122.toNat, 0, 0]
@[reducible] def k0_t4_loop (i : grid0.Coords) : Scf.Loop 32 :=
  let c0_i32_47 : BitVec 32 := 0#32
  let arg3 : BitVec 32 := BitVec.ofNat 32 (i 3).val
  let c1_i32_45 : BitVec 32 := 1#32
  let v131 : BitVec 32 := Scalar.addi arg3 c1_i32_45
  let v133 : BitVec 32 := Scalar.subi v131 c0_i32_47
  let c1_i32_48 : BitVec 32 := 1#32
  let v135 : BitVec 32 := Scalar.divsi v133 c1_i32_48
  let v136 : BitVec 32 := Scalar.muli v135 c1_i32_48
  let v137 : BitVec 32 := Scalar.addi c0_i32_47 v136
  let c1_i32_49 : BitVec 32 := 1#32
  ⟨c0_i32_47, v137, c1_i32_49⟩
def k0_off16 (i : grid0.Coords) (k0_t4 : Fin (k0_t4_loop i).trips) : Fin 3 → Nat :=
  let c0_i32_47 : BitVec 32 := 0#32
  let c1_i32_49 : BitVec 32 := 1#32
  let arg18 : BitVec 32 := Scf.iv c0_i32_47 c1_i32_49 k0_t4
  let v174 : Index := Scalar.indexCast arg18
  let c0_73 : Index := 0#32
  let c0_74 : Index := 0#32
  ![v174.toNat, 0, 0]
@[reducible] def k0_t5_loop (i : grid0.Coords) : Scf.Loop 32 :=
  let c0_i32_47 : BitVec 32 := 0#32
  let arg3 : BitVec 32 := BitVec.ofNat 32 (i 3).val
  let c1_i32_45 : BitVec 32 := 1#32
  let v131 : BitVec 32 := Scalar.addi arg3 c1_i32_45
  let v133 : BitVec 32 := Scalar.subi v131 c0_i32_47
  let c1_i32_48 : BitVec 32 := 1#32
  let v135 : BitVec 32 := Scalar.divsi v133 c1_i32_48
  let v136 : BitVec 32 := Scalar.muli v135 c1_i32_48
  let v137 : BitVec 32 := Scalar.addi c0_i32_47 v136
  let v134 : BitVec 32 := Scalar.addi c0_i32_47 v133
  let c1_i32_50 : BitVec 32 := 1#32
  ⟨v137, v134, c1_i32_50⟩
def k0_off17 (i : grid0.Coords) (k0_t5 : Fin (k0_t5_loop i).trips) : Fin 3 → Nat :=
  let c0_i32_47 : BitVec 32 := 0#32
  let arg3 : BitVec 32 := BitVec.ofNat 32 (i 3).val
  let c1_i32_45 : BitVec 32 := 1#32
  let v131 : BitVec 32 := Scalar.addi arg3 c1_i32_45
  let v133 : BitVec 32 := Scalar.subi v131 c0_i32_47
  let c1_i32_48 : BitVec 32 := 1#32
  let v135 : BitVec 32 := Scalar.divsi v133 c1_i32_48
  let v136 : BitVec 32 := Scalar.muli v135 c1_i32_48
  let v137 : BitVec 32 := Scalar.addi c0_i32_47 v136
  let c1_i32_50 : BitVec 32 := 1#32
  let arg18 : BitVec 32 := Scf.iv v137 c1_i32_50 k0_t5
  let v174 : Index := Scalar.indexCast arg18
  let c0_73 : Index := 0#32
  let c0_74 : Index := 0#32
  ![v174.toNat, 0, 0]
@[reducible] def k0_t6_loop (i : grid0.Coords) : Scf.Loop 32 :=
  let c0_i32_53 : BitVec 32 := 0#32
  let arg3 : BitVec 32 := BitVec.ofNat 32 (i 3).val
  let c1_i32_45 : BitVec 32 := 1#32
  let v131 : BitVec 32 := Scalar.addi arg3 c1_i32_45
  let v143 : BitVec 32 := Scalar.subi v131 c0_i32_53
  let c1_i32_54 : BitVec 32 := 1#32
  let v145 : BitVec 32 := Scalar.divsi v143 c1_i32_54
  let v146 : BitVec 32 := Scalar.muli v145 c1_i32_54
  let v147 : BitVec 32 := Scalar.addi c0_i32_53 v146
  let c1_i32_55 : BitVec 32 := 1#32
  ⟨c0_i32_53, v147, c1_i32_55⟩
def k0_off18 (i : grid0.Coords) (k0_t6 : Fin (k0_t6_loop i).trips) : Fin 3 → Nat :=
  let c0_i32_53 : BitVec 32 := 0#32
  let c1_i32_55 : BitVec 32 := 1#32
  let arg18 : BitVec 32 := Scf.iv c0_i32_53 c1_i32_55 k0_t6
  let v174 : Index := Scalar.indexCast arg18
  let c0_73 : Index := 0#32
  let c0_74 : Index := 0#32
  ![v174.toNat, 0, 0]
@[reducible] def k0_t7_loop (i : grid0.Coords) : Scf.Loop 32 :=
  let c0_i32_53 : BitVec 32 := 0#32
  let arg3 : BitVec 32 := BitVec.ofNat 32 (i 3).val
  let c1_i32_45 : BitVec 32 := 1#32
  let v131 : BitVec 32 := Scalar.addi arg3 c1_i32_45
  let v143 : BitVec 32 := Scalar.subi v131 c0_i32_53
  let c1_i32_54 : BitVec 32 := 1#32
  let v145 : BitVec 32 := Scalar.divsi v143 c1_i32_54
  let v146 : BitVec 32 := Scalar.muli v145 c1_i32_54
  let v147 : BitVec 32 := Scalar.addi c0_i32_53 v146
  let v144 : BitVec 32 := Scalar.addi c0_i32_53 v143
  let c1_i32_56 : BitVec 32 := 1#32
  ⟨v147, v144, c1_i32_56⟩
def k0_off19 (i : grid0.Coords) (k0_t7 : Fin (k0_t7_loop i).trips) : Fin 3 → Nat :=
  let c0_i32_53 : BitVec 32 := 0#32
  let arg3 : BitVec 32 := BitVec.ofNat 32 (i 3).val
  let c1_i32_45 : BitVec 32 := 1#32
  let v131 : BitVec 32 := Scalar.addi arg3 c1_i32_45
  let v143 : BitVec 32 := Scalar.subi v131 c0_i32_53
  let c1_i32_54 : BitVec 32 := 1#32
  let v145 : BitVec 32 := Scalar.divsi v143 c1_i32_54
  let v146 : BitVec 32 := Scalar.muli v145 c1_i32_54
  let v147 : BitVec 32 := Scalar.addi c0_i32_53 v146
  let c1_i32_56 : BitVec 32 := 1#32
  let arg18 : BitVec 32 := Scf.iv v147 c1_i32_56 k0_t7
  let v174 : Index := Scalar.indexCast arg18
  let c0_73 : Index := 0#32
  let c0_74 : Index := 0#32
  ![v174.toNat, 0, 0]
@[reducible] def k0_t8_loop (i : grid0.Coords) : Scf.Loop 32 :=
  let c0_i32_59 : BitVec 32 := 0#32
  let arg3 : BitVec 32 := BitVec.ofNat 32 (i 3).val
  let c1_i32_45 : BitVec 32 := 1#32
  let v131 : BitVec 32 := Scalar.addi arg3 c1_i32_45
  let v154 : BitVec 32 := Scalar.subi v131 c0_i32_59
  let c1_i32_61 : BitVec 32 := 1#32
  let v156 : BitVec 32 := Scalar.divsi v154 c1_i32_61
  let v157 : BitVec 32 := Scalar.muli v156 c1_i32_61
  let v158 : BitVec 32 := Scalar.addi c0_i32_59 v157
  let c1_i32_62 : BitVec 32 := 1#32
  ⟨c0_i32_59, v158, c1_i32_62⟩
def k0_off20 (i : grid0.Coords) (k0_t8 : Fin (k0_t8_loop i).trips) : Fin 3 → Nat :=
  let c0_i32_59 : BitVec 32 := 0#32
  let c1_i32_62 : BitVec 32 := 1#32
  let arg18 : BitVec 32 := Scf.iv c0_i32_59 c1_i32_62 k0_t8
  let v174 : Index := Scalar.indexCast arg18
  let c0_73 : Index := 0#32
  let c0_74 : Index := 0#32
  ![v174.toNat, 0, 0]
def k0_off21 (i : grid0.Coords) (k0_t8 : Fin (k0_t8_loop i).trips) : Fin 3 → Nat :=
  let c0_i32_59 : BitVec 32 := 0#32
  let c1_i32_62 : BitVec 32 := 1#32
  let arg18 : BitVec 32 := Scf.iv c0_i32_59 c1_i32_62 k0_t8
  let v275 : Index := Scalar.indexCast arg18
  let c0_101 : Index := 0#32
  let c0_102 : Index := 0#32
  ![v275.toNat, 0, 0]
@[reducible] def k0_t9_loop (i : grid0.Coords) : Scf.Loop 32 :=
  let c0_i32_59 : BitVec 32 := 0#32
  let arg3 : BitVec 32 := BitVec.ofNat 32 (i 3).val
  let c1_i32_45 : BitVec 32 := 1#32
  let v131 : BitVec 32 := Scalar.addi arg3 c1_i32_45
  let v154 : BitVec 32 := Scalar.subi v131 c0_i32_59
  let c1_i32_61 : BitVec 32 := 1#32
  let v156 : BitVec 32 := Scalar.divsi v154 c1_i32_61
  let v157 : BitVec 32 := Scalar.muli v156 c1_i32_61
  let v158 : BitVec 32 := Scalar.addi c0_i32_59 v157
  let v155 : BitVec 32 := Scalar.addi c0_i32_59 v154
  let c1_i32_63 : BitVec 32 := 1#32
  ⟨v158, v155, c1_i32_63⟩
def k0_off22 (i : grid0.Coords) (k0_t9 : Fin (k0_t9_loop i).trips) : Fin 3 → Nat :=
  let c0_i32_59 : BitVec 32 := 0#32
  let arg3 : BitVec 32 := BitVec.ofNat 32 (i 3).val
  let c1_i32_45 : BitVec 32 := 1#32
  let v131 : BitVec 32 := Scalar.addi arg3 c1_i32_45
  let v154 : BitVec 32 := Scalar.subi v131 c0_i32_59
  let c1_i32_61 : BitVec 32 := 1#32
  let v156 : BitVec 32 := Scalar.divsi v154 c1_i32_61
  let v157 : BitVec 32 := Scalar.muli v156 c1_i32_61
  let v158 : BitVec 32 := Scalar.addi c0_i32_59 v157
  let c1_i32_63 : BitVec 32 := 1#32
  let arg18 : BitVec 32 := Scf.iv v158 c1_i32_63 k0_t9
  let v174 : Index := Scalar.indexCast arg18
  let c0_73 : Index := 0#32
  let c0_74 : Index := 0#32
  ![v174.toNat, 0, 0]
def k0_off23 (i : grid0.Coords) (k0_t9 : Fin (k0_t9_loop i).trips) : Fin 3 → Nat :=
  let c0_i32_59 : BitVec 32 := 0#32
  let arg3 : BitVec 32 := BitVec.ofNat 32 (i 3).val
  let c1_i32_45 : BitVec 32 := 1#32
  let v131 : BitVec 32 := Scalar.addi arg3 c1_i32_45
  let v154 : BitVec 32 := Scalar.subi v131 c0_i32_59
  let c1_i32_61 : BitVec 32 := 1#32
  let v156 : BitVec 32 := Scalar.divsi v154 c1_i32_61
  let v157 : BitVec 32 := Scalar.muli v156 c1_i32_61
  let v158 : BitVec 32 := Scalar.addi c0_i32_59 v157
  let c1_i32_63 : BitVec 32 := 1#32
  let arg18 : BitVec 32 := Scf.iv v158 c1_i32_63 k0_t9
  let v275 : Index := Scalar.indexCast arg18
  let c0_101 : Index := 0#32
  let c0_102 : Index := 0#32
  ![v275.toNat, 0, 0]
@[reducible] def k0_t10_loop (i : grid0.Coords) : Scf.Loop 32 :=
  let c0_i32_65 : BitVec 32 := 0#32
  let arg3 : BitVec 32 := BitVec.ofNat 32 (i 3).val
  let c1_i32_45 : BitVec 32 := 1#32
  let v131 : BitVec 32 := Scalar.addi arg3 c1_i32_45
  let v162 : BitVec 32 := Scalar.subi v131 c0_i32_65
  let c1_i32_66 : BitVec 32 := 1#32
  let v164 : BitVec 32 := Scalar.divsi v162 c1_i32_66
  let v165 : BitVec 32 := Scalar.muli v164 c1_i32_66
  let v166 : BitVec 32 := Scalar.addi c0_i32_65 v165
  let c1_i32_67 : BitVec 32 := 1#32
  ⟨c0_i32_65, v166, c1_i32_67⟩
def k0_off24 (i : grid0.Coords) (k0_t10 : Fin (k0_t10_loop i).trips) : Fin 4 → Nat :=
  let c0_i32_65 : BitVec 32 := 0#32
  let c1_i32_67 : BitVec 32 := 1#32
  let arg18 : BitVec 32 := Scf.iv c0_i32_65 c1_i32_67 k0_t10
  let v174 : Index := Scalar.indexCast arg18
  let c0_73 : Index := 0#32
  let c0_74 : Index := 0#32
  let c0_75 : Index := 0#32
  ![v174.toNat, 0, 0, 0]
def k0_off25 (i : grid0.Coords) (k0_t10 : Fin (k0_t10_loop i).trips) : Fin 3 → Nat :=
  let c0_i32_65 : BitVec 32 := 0#32
  let c1_i32_67 : BitVec 32 := 1#32
  let arg18 : BitVec 32 := Scf.iv c0_i32_65 c1_i32_67 k0_t10
  let v177 : Index := Scalar.indexCast arg18
  let c0_76 : Index := 0#32
  let c0_77 : Index := 0#32
  ![v177.toNat, 0, 0]
def k0_off26 (i : grid0.Coords) (k0_t10 : Fin (k0_t10_loop i).trips) : Fin 3 → Nat :=
  let c0_i32_65 : BitVec 32 := 0#32
  let c1_i32_67 : BitVec 32 := 1#32
  let arg18 : BitVec 32 := Scf.iv c0_i32_65 c1_i32_67 k0_t10
  let v187 : Index := Scalar.indexCast arg18
  let c0_78 : Index := 0#32
  let c0_79 : Index := 0#32
  ![v187.toNat, 0, 0]
def k0_off27 (i : grid0.Coords) (k0_t10 : Fin (k0_t10_loop i).trips) : Fin 3 → Nat :=
  let c0_i32_65 : BitVec 32 := 0#32
  let c1_i32_67 : BitVec 32 := 1#32
  let arg18 : BitVec 32 := Scf.iv c0_i32_65 c1_i32_67 k0_t10
  let v194 : Index := Scalar.indexCast arg18
  let c0_80 : Index := 0#32
  let c0_81 : Index := 0#32
  ![v194.toNat, 0, 0]
@[reducible] def k0_t11_loop (i : grid0.Coords) : Scf.Loop 32 :=
  let c0_i32_65 : BitVec 32 := 0#32
  let arg3 : BitVec 32 := BitVec.ofNat 32 (i 3).val
  let c1_i32_45 : BitVec 32 := 1#32
  let v131 : BitVec 32 := Scalar.addi arg3 c1_i32_45
  let v162 : BitVec 32 := Scalar.subi v131 c0_i32_65
  let c1_i32_66 : BitVec 32 := 1#32
  let v164 : BitVec 32 := Scalar.divsi v162 c1_i32_66
  let v165 : BitVec 32 := Scalar.muli v164 c1_i32_66
  let v166 : BitVec 32 := Scalar.addi c0_i32_65 v165
  let v163 : BitVec 32 := Scalar.addi c0_i32_65 v162
  let c1_i32_68 : BitVec 32 := 1#32
  ⟨v166, v163, c1_i32_68⟩
def k0_off28 (i : grid0.Coords) (k0_t11 : Fin (k0_t11_loop i).trips) : Fin 4 → Nat :=
  let c0_i32_65 : BitVec 32 := 0#32
  let arg3 : BitVec 32 := BitVec.ofNat 32 (i 3).val
  let c1_i32_45 : BitVec 32 := 1#32
  let v131 : BitVec 32 := Scalar.addi arg3 c1_i32_45
  let v162 : BitVec 32 := Scalar.subi v131 c0_i32_65
  let c1_i32_66 : BitVec 32 := 1#32
  let v164 : BitVec 32 := Scalar.divsi v162 c1_i32_66
  let v165 : BitVec 32 := Scalar.muli v164 c1_i32_66
  let v166 : BitVec 32 := Scalar.addi c0_i32_65 v165
  let c1_i32_68 : BitVec 32 := 1#32
  let arg18 : BitVec 32 := Scf.iv v166 c1_i32_68 k0_t11
  let v174 : Index := Scalar.indexCast arg18
  let c0_73 : Index := 0#32
  let c0_74 : Index := 0#32
  let c0_75 : Index := 0#32
  ![v174.toNat, 0, 0, 0]
def k0_off29 (i : grid0.Coords) (k0_t11 : Fin (k0_t11_loop i).trips) : Fin 3 → Nat :=
  let c0_i32_65 : BitVec 32 := 0#32
  let arg3 : BitVec 32 := BitVec.ofNat 32 (i 3).val
  let c1_i32_45 : BitVec 32 := 1#32
  let v131 : BitVec 32 := Scalar.addi arg3 c1_i32_45
  let v162 : BitVec 32 := Scalar.subi v131 c0_i32_65
  let c1_i32_66 : BitVec 32 := 1#32
  let v164 : BitVec 32 := Scalar.divsi v162 c1_i32_66
  let v165 : BitVec 32 := Scalar.muli v164 c1_i32_66
  let v166 : BitVec 32 := Scalar.addi c0_i32_65 v165
  let c1_i32_68 : BitVec 32 := 1#32
  let arg18 : BitVec 32 := Scf.iv v166 c1_i32_68 k0_t11
  let v177 : Index := Scalar.indexCast arg18
  let c0_76 : Index := 0#32
  let c0_77 : Index := 0#32
  ![v177.toNat, 0, 0]
def k0_off30 (i : grid0.Coords) (k0_t11 : Fin (k0_t11_loop i).trips) : Fin 3 → Nat :=
  let c0_i32_65 : BitVec 32 := 0#32
  let arg3 : BitVec 32 := BitVec.ofNat 32 (i 3).val
  let c1_i32_45 : BitVec 32 := 1#32
  let v131 : BitVec 32 := Scalar.addi arg3 c1_i32_45
  let v162 : BitVec 32 := Scalar.subi v131 c0_i32_65
  let c1_i32_66 : BitVec 32 := 1#32
  let v164 : BitVec 32 := Scalar.divsi v162 c1_i32_66
  let v165 : BitVec 32 := Scalar.muli v164 c1_i32_66
  let v166 : BitVec 32 := Scalar.addi c0_i32_65 v165
  let c1_i32_68 : BitVec 32 := 1#32
  let arg18 : BitVec 32 := Scf.iv v166 c1_i32_68 k0_t11
  let v187 : Index := Scalar.indexCast arg18
  let c0_78 : Index := 0#32
  let c0_79 : Index := 0#32
  ![v187.toNat, 0, 0]
def k0_off31 (i : grid0.Coords) (k0_t11 : Fin (k0_t11_loop i).trips) : Fin 3 → Nat :=
  let c0_i32_65 : BitVec 32 := 0#32
  let arg3 : BitVec 32 := BitVec.ofNat 32 (i 3).val
  let c1_i32_45 : BitVec 32 := 1#32
  let v131 : BitVec 32 := Scalar.addi arg3 c1_i32_45
  let v162 : BitVec 32 := Scalar.subi v131 c0_i32_65
  let c1_i32_66 : BitVec 32 := 1#32
  let v164 : BitVec 32 := Scalar.divsi v162 c1_i32_66
  let v165 : BitVec 32 := Scalar.muli v164 c1_i32_66
  let v166 : BitVec 32 := Scalar.addi c0_i32_65 v165
  let c1_i32_68 : BitVec 32 := 1#32
  let arg18 : BitVec 32 := Scf.iv v166 c1_i32_68 k0_t11
  let v194 : Index := Scalar.indexCast arg18
  let c0_80 : Index := 0#32
  let c0_81 : Index := 0#32
  ![v194.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c5_i32 : BitVec 32 := 5#32
  let v0 : BitVec 32 := Scalar.muli arg1 c5_i32
  let v1 : BitVec 32 := Scalar.addi v0 arg2
  let c0_i32 : BitVec 32 := 0#32
  let c0_i32_0 : BitVec 32 := 0#32
  ![arg0.toNat, v1.toNat, arg3.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c5_i32 : BitVec 32 := 5#32
  let v0 : BitVec 32 := Scalar.muli arg1 c5_i32
  let v1 : BitVec 32 := Scalar.addi v0 arg2
  let c0_i32 : BitVec 32 := 0#32
  let c0_i32_0 : BitVec 32 := 0#32
  ![arg0.toNat, v1.toNat, arg3.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c5_i32 : BitVec 32 := 5#32
  let v0 : BitVec 32 := Scalar.muli arg1 c5_i32
  let v1 : BitVec 32 := Scalar.addi v0 arg2
  let c0_i32 : BitVec 32 := 0#32
  let c0_i32_0 : BitVec 32 := 0#32
  ![arg0.toNat, v1.toNat, arg3.toNat, c0_i32.toNat]

abbrev stage0_0 : Fin 2 → Memref sig .tc .vmem S1x1x256x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x1x256x4 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x1x12288x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x1x12288x4 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]

abbrev stage0_4 : Fin 2 → Memref sig .tc .vmem S1x1x128x12288 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, false]

abbrev stage0_5 : Fin 2 → Memref sig .tc .vmem S1x1x48x128x8 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false, false]

abbrev stage0_6 : Fin 2 → Memref sig .tc .vmem S1x1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, true]
-- ==== KernelIdeal.lean ====
variable {F : FTy → Type} [FloatOps F] [Named F]
def κ : String → Option EReal := fun
  | "inv_fp8_max" => some ((1 / 448 : ℝ) : EReal)
  | "masked" => some ⊥
  | "scale_log2e" => some (((Real.sqrt 128)⁻¹ * (Real.log 2)⁻¹ : ℝ) : EReal)
  | _ => none
-- ==== ReferenceIdeal.lean ====
abbrev S2x40x12288x128 : Shape := ⟨4, ![2, 40, 12288, 128]⟩
abbrev S2x40x12288x4 : Shape := ⟨4, ![2, 40, 12288, 4]⟩
abbrev S2x8x12288x128 : Shape := ⟨4, ![2, 8, 12288, 128]⟩
abbrev S2x8x12288x4 : Shape := ⟨4, ![2, 8, 12288, 4]⟩
abbrev S2x8x128x12288 : Shape := ⟨4, ![2, 8, 128, 12288]⟩
abbrev S2x8x128x384 : Shape := ⟨4, ![2, 8, 128, 384]⟩
abbrev S2x40x12288x4x32 : Shape := ⟨5, ![2, 40, 12288, 4, 32]⟩
abbrev S2x40x12288x4x1 : Shape := ⟨5, ![2, 40, 12288, 4, 1]⟩
abbrev S2x8x5x12288x128 : Shape := ⟨5, ![2, 8, 5, 12288, 128]⟩
abbrev S2x8x12288x4x32 : Shape := ⟨5, ![2, 8, 12288, 4, 32]⟩
abbrev S2x8x12288x4x1 : Shape := ⟨5, ![2, 8, 12288, 4, 1]⟩
abbrev S2x8x128x384x32 : Shape := ⟨5, ![2, 8, 128, 384, 32]⟩
abbrev S2x8x128x384x1 : Shape := ⟨5, ![2, 8, 128, 384, 1]⟩
abbrev S2x8x5x12288x12288 : Shape := ⟨5, ![2, 8, 5, 12288, 12288]⟩
abbrev S12288x12288 : Shape := ⟨2, ![12288, 12288]⟩
abbrev S1x1x1x12288x12288 : Shape := ⟨5, ![1, 1, 1, 12288, 12288]⟩
abbrev S2x8x5x12288 : Shape := ⟨4, ![2, 8, 5, 12288]⟩
abbrev S2x8x5x12288x1 : Shape := ⟨5, ![2, 8, 5, 12288, 1]⟩
abbrev S2x8x5x12288x384x32 : Shape := ⟨6, ![2, 8, 5, 12288, 384, 32]⟩
abbrev S2x8x5x12288x384 : Shape := ⟨5, ![2, 8, 5, 12288, 384]⟩
abbrev S2x8x5x12288x384x1 : Shape := ⟨6, ![2, 8, 5, 12288, 384, 1]⟩

abbrev nBuf : Space → Nat
  | .hbm => 7
  | .vmem => 7
  | .smem => 0
  | _ => 0

abbrev bufTy : (tb : Table) → Fin (tcTables nBuf tb) → BufTy
  | .hbm, ⟨0, _⟩ => ⟨S2x40x12288x128, .fp8e4m3⟩
  | .hbm, ⟨1, _⟩ => ⟨S2x40x12288x4, .i8⟩
  | .hbm, ⟨2, _⟩ => ⟨S2x8x12288x128, .fp8e4m3⟩
  | .hbm, ⟨3, _⟩ => ⟨S2x8x12288x4, .i8⟩
  | .hbm, ⟨4, _⟩ => ⟨S2x8x128x12288, .fp8e4m3⟩
  | .hbm, ⟨5, _⟩ => ⟨S2x8x128x384, .i8⟩
  | .hbm, ⟨6, _⟩ => ⟨S2x40x12288x128, .bf16⟩
  | .local _ .vmem, ⟨0, _⟩ => ⟨S2x40x12288x128, .fp8e4m3⟩
  | .local _ .vmem, ⟨1, _⟩ => ⟨S2x40x12288x4, .i8⟩
  | .local _ .vmem, ⟨2, _⟩ => ⟨S2x8x12288x128, .fp8e4m3⟩
  | .local _ .vmem, ⟨3, _⟩ => ⟨S2x8x12288x4, .i8⟩
  | .local _ .vmem, ⟨4, _⟩ => ⟨S2x8x128x12288, .fp8e4m3⟩
  | .local _ .vmem, ⟨5, _⟩ => ⟨S2x8x128x384, .i8⟩
  | .local _ .vmem, ⟨6, _⟩ => ⟨S2x40x12288x128, .bf16⟩
  | _, _ => ⟨S2x40x12288x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_fp8_max" => some ((1 / 448 : ℝ) : EReal)
  | "log2e" => some (((Real.log 2)⁻¹ : ℝ) : EReal)
  | "score_scale" => some (((Real.sqrt 128)⁻¹ : ℝ) : EReal)
  | _ => none

abbrev grid0 : Pipeline.Grid := .none

abbrev stage0_0 : Fin 1 → Memref sig .tc .vmem S2x40x12288x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x40x12288x4 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x12288x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x12288x4 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8x128x12288 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8x128x384 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x40x12288x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelFrame.lean ====
/- The frame of the kernel: at any memory its run terminates, leaves every argument array as it was and every
   semaphore at zero. The body's triple keeps the six input blocks and says nothing about what the output block
   and the seven scratch buffers hold. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import proofs.«01_k».proof.Proof.Gen.Kernel.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body, on whole memrefs: the six inputs stay as they are, the output and the scratch buffers end at some contents. -/
theorem sound_kernel (c : Dev nD) (E : Set ℕ) (i : grid0.Coords) (arg4 : Memref sig .tc .vmem S1x1x256x128 .fp8e4m3) (harg4 : arg4.IsWhole) (arg5 : Memref sig .tc .vmem S1x1x256x4 .i8) (harg5 : arg5.IsWhole) (arg6 : Memref sig .tc .vmem S1x1x12288x128 .fp8e4m3) (harg6 : arg6.IsWhole) (arg7 : Memref sig .tc .vmem S1x1x12288x4 .i8) (harg7 : arg7.IsWhole) (arg8 : Memref sig .tc .vmem S1x1x128x12288 .fp8e4m3) (harg8 : arg8.IsWhole) (arg9 : Memref sig .tc .vmem S1x1x48x128x8 .i8) (harg9 : arg9.IsWhole) (arg10 : Memref sig .tc .vmem S1x1x256x128 .bf16) (harg10 : arg10.IsWhole) (arg11 : Memref sig .tc .vmem S12288x128 .bf16) (harg11 : arg11.IsWhole) (arg12 : Memref sig .tc .vmem S48x128x256 .bf16) (harg12 : arg12.IsWhole) (arg13 : Memref sig .tc .vmem S48x32x8x256 .f32) (harg13 : arg13.IsWhole) (arg14 : Memref sig .tc .vmem S48x8x256 .f32) (harg14 : arg14.IsWhole) (arg15 : Memref sig .tc .vmem S48x8x256 .f32) (harg15 : arg15.IsWhole) (arg16 : Memref sig .tc .vmem S48x8x256 .f32) (harg16 : arg16.IsWhole) (arg17 : Memref sig .tc .vmem S48x16x256 .bf16) (harg17 : arg17.IsWhole)
    (x0 : Vec F S1x1x256x128 .fp8e4m3) (x1 : Vec F S1x1x256x4 .i8) (x2 : Vec F S1x1x12288x128 .fp8e4m3) (x3 : Vec F S1x1x12288x4 .i8) (x4 : Vec F S1x1x128x12288 .fp8e4m3) (x5 : Vec F S1x1x48x128x8 .i8) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_mx_attn i arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mx_attn_eq_skeleton]; unfold cc0_mx_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5
  by_cases hc : k0_cond1 i = 1#1
  all_goals
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; iexists _; isplitr; swap; (iexact H6); ipureintro; rfl
    isplitl [H7]
    · iexists _; iexists _; isplitr; swap; (iexact H7); ipureintro; rfl
    isplitl [H8]
    · iexists _; iexists _; isplitr; swap; (iexact H8); ipureintro; rfl
    isplitl [H9]
    · iexists _; iexists _; isplitr; swap; (iexact H9); ipureintro; rfl
    isplitl [H10]
    · iexists _; iexists _; isplitr; swap; (iexact H10); ipureintro; rfl
    isplitl [H11]
    · iexists _; iexists _; isplitr; swap; (iexact H11); ipureintro; rfl
    isplitl [H12]
    · iexists _; iexists _; isplitr; swap; (iexact H12); ipureintro; rfl
    iexists _; iexists _; isplitr; swap; (iexact H13); ipureintro; rfl

variable (m : (ℓ : Loc nD τ sig) → Buf (Elt F) ℓ) (ρ : Dev nD → PrngReg)

/-- The output window is the one whose contents this frame does not state. -/
abbrev forgotten : Fin cfg0.W → Bool := fun w => decide (w = 6)

/-- The proof data: every window at its block of the arrays the region finds, the scratch buffers at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The region's invariant between points: the seven scratch buffers whole at some contents, and the generator register. -/
theorem ΦA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)
        ∗ (∃ d, owns (c : Thread nD τ) (Memref.whole cc0_scratch4) fullShare d) ∗ (∃ d, owns (c : Thread nD τ) (Memref.whole cc0_scratch5) fullShare d)
        ∗ (∃ d, owns (c : Thread nD τ) (Memref.whole cc0_scratch6) fullShare d)) ∗ ∃ r, prngReg c r) := by
  unfold Pipeline.ΦA
  rw [scopedRest0_eq]
  simp only [owns_whole]

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d))

set_option maxHeartbeats 1000000 in
/-- The body at any point, by its triple. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, after0_0, after0_1, after0_2, after0_3, after0_4, after0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, ΦA_eq]
  iintro ⟨⟨⟨S0, S1, S2, S3, S4, S5, S6⟩, Hr⟩, Ho, ⟨%d0, H0⟩, ⟨%d1, H1⟩, ⟨%d2, H2⟩, ⟨%d3, H3⟩, ⟨%d4, H4⟩, ⟨%d5, H5⟩, H6⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, S0, S1, S2, S3, S4, S5, S6⟩
  isplitl [S0 S1 S2 S3 S4 S5 S6 Hr]
  · isplitr [Hr]
    · isplitl [S0]; · iexact S0
      isplitl [S1]; · iexact S1
      isplitl [S2]; · iexact S2
      isplitl [S3]; · iexact S3
      isplitl [S4]; · iexact S4
      isplitl [S5]; · iexact S5
      iexact S6
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point, the output window's contents not stated. -/
theorem body_obligation (c : Dev nD) : BodyObligation (dats (F := F) m 0 c) (defs₀ (F := F)) Variants.none () Set.univ forgotten := fun t => by
  rw [bigSep_W0, bigSep_W0, defs₀_row]
  exact triple_restated (sound_body m c t) rfl .rfl fun _ => .rfl

set_option backward.isDefEq.respectTransparency.types false in
set_option maxHeartbeats 800000 in
/-- The launch: every execution terminates, each input array at what the region found, every semaphore at zero. -/
theorem run_main : θ_run defs (onTc (τ := τ) (main (F := F))) (s₀ m ρ)
    (fun r => Pipeline.RDat.FramePost cfg0 (fun c => (dats m 0 c).toRForget forgotten) (V m) r ∧ r.2.sem = fun _ => 0) :=
  Pipeline.θ_run_frame_forget (Q' := _) cfgs (dats m) (0 : Fin 1) launch0 defs₀ Variants.none forgotten m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim: every argument array ends as it was, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1.arr_in c 0 rfl).trans (V_main_arg0 m c), (h.1.arr_in c 1 rfl).trans (V_main_arg1 m c),
      (h.1.arr_in c 2 rfl).trans (V_main_arg2 m c), (h.1.arr_in c 3 rfl).trans (V_main_arg3 m c), (h.1.arr_in c 4 rfl).trans (V_main_arg4 m c),
      ((h.1 c).2 main_arg5 (Pipeline.mem_restRefs_of main_arg5 (by decide) (by decide))).trans (V_main_arg5 m c)⟩, h.2⟩) (run_main m ρ)

end Cert.Kernel.Hand

end
-- ==== Proof.KernelLoops.lean ====
/- The counted loops of the idealized kernel's body, each with an invariant that names what its scratch buffers and its carried
   value hold before a trip: the contents at the loop's entry with the trips so far written over them, one after another. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The state before trip `k` of a loop of `N` trips that starts at `a`: each trip applies `f`. Past the last trip it stays. -/
def iter {α : Type*} {N : ℕ} (f : Fin N → α → α) (a : α) : ℕ → α
  | 0 => a
  | k + 1 => if h : k < N then f ⟨k, h⟩ (iter f a k) else iter f a k

theorem iter_succ {α : Type*} {N : ℕ} (f : Fin N → α → α) (a : α) (k : Fin N) : iter f a (k.val + 1) = f k (iter f a k.val) :=
  dif_pos k.isLt

set_option warn.classDefReducibility false in
set_option maxHeartbeats 2000000 in
/-- The loop that dequantises the keys and the values of a head, a tile of 256 keys at each trip. -/
@[sl_loop] def loop1 (𝒱 : Variants) (c : Dev nD) (bd : Option 𝒱.V) (E : Set ℕ) (i : grid0.Coords) (arg4 : Memref sig .tc .vmem S1x1x256x128 .fp8e4m3) (harg4 : arg4.IsWhole) (arg5 : Memref sig .tc .vmem S1x1x256x4 .i8) (harg5 : arg5.IsWhole) (arg6 : Memref sig .tc .vmem S1x1x12288x128 .fp8e4m3) (harg6 : arg6.IsWhole) (arg7 : Memref sig .tc .vmem S1x1x12288x4 .i8) (harg7 : arg7.IsWhole) (arg8 : Memref sig .tc .vmem S1x1x128x12288 .fp8e4m3) (harg8 : arg8.IsWhole) (arg9 : Memref sig .tc .vmem S1x1x48x128x8 .i8) (harg9 : arg9.IsWhole) (arg10 : Memref sig .tc .vmem S1x1x256x128 .bf16) (harg10 : arg10.IsWhole) (arg11 : Memref sig .tc .vmem S12288x128 .bf16) (harg11 : arg11.IsWhole) (arg12 : Memref sig .tc .vmem S48x128x256 .bf16) (harg12 : arg12.IsWhole) (arg13 : Memref sig .tc .vmem S48x32x8x256 .f32) (harg13 : arg13.IsWhole) (arg14 : Memref sig .tc .vmem S48x8x256 .f32) (harg14 : arg14.IsWhole) (arg15 : Memref sig .tc .vmem S48x8x256 .f32) (harg15 : arg15.IsWhole) (arg16 : Memref sig .tc .vmem S48x8x256 .f32) (harg16 : arg16.IsWhole) (arg17 : Memref sig .tc .vmem S48x16x256 .bf16) (harg17 : arg17.IsWhole) (k0_h1 : k0_cond1 i = 1#1) (v222 : FVec F S256x256 .bf16) (v244 : FVec F S8x256 .bf16) (v247 : IVec S4x128 32) (v266 : IVec S4x128 1) (c1_i32_99 : BitVec 32) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg11 : BufTy.Contents (Elt F) arg11.view.ty) (G_arg12 : BufTy.Contents (Elt F) arg12.view.ty)  :
    LoopInvTy_k0_t1 (F := F) Unit ℕ (UR sig nD τ) ℕ 𝒱 c bd E i arg4 harg4 arg5 harg5 arg6 harg6 arg7 harg7 arg8 harg8 arg9 harg9 arg10 harg10 arg11 harg11 arg12 harg12 arg13 harg13 arg14 harg14 arg15 harg15 arg16 harg16 arg17 harg17 k0_h1 v222 v244 v247 v266 c1_i32_99  where
  inv k _ := iprop((arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (∃ f, (arg11.view.loc (c : Thread nD τ) ↦[arg11.view.set]{fullShare} f) ∗ ⌜f = iter (fun k g => arg11.view.writes (Elt F) g [⟨(Rect.unit (s := S12288x128) (k0_off3 k) S256x128.size (k0_off3_inb i k k0_h1)), k0_pay8 v222 (k0_pay34 (F := F) v247 v266 c1_i32_99) (arg6.view.readAt (Elt F) (Rect.unit (s := S1x1x12288x128) (k0_off1 k) S1x1x256x128.size (k0_off1_inb i k k0_h1)).toLoadRect X_arg6) (arg7.view.readAt (Elt F) (Rect.unit (s := S1x1x12288x4) (k0_off2 k) S1x1x256x4.size (k0_off2_inb i k k0_h1)).toLoadRect X_arg7)⟩]) G_arg11 k⌝) ∗ (∃ f, (arg12.view.loc (c : Thread nD τ) ↦[arg12.view.set]{fullShare} f) ∗ ⌜f = iter (fun k g => arg12.view.writes (Elt F) g [⟨(Rect.unit (s := S48x128x256) (k0_off6 k) S1x128x256.size (k0_off6_inb i k k0_h1)), k0_pay35 v244 (k0_pay9 v222 (arg8.view.readAt (Elt F) (Rect.unit (s := S1x1x128x12288) (k0_off4 k) S1x1x128x256.size (k0_off4_inb i k k0_h1)).toLoadRect X_arg8)) (k0_pay10 (F := F) (arg9.view.readAt (Elt F) (Rect.unit (s := S1x1x48x128x8) (k0_off5 k) S1x1x1x128x8.size (k0_off5_inb i k k0_h1)).toLoadRect X_arg9))⟩]) G_arg12 k⌝))
  step k acc := by
    have hk : k.val < 48 := Nat.lt_of_lt_of_le k.isLt k0_t1_abs.2.1
    iintro ⟨HR6, HR7, HR8, HR9, ⟨%f11, HW11, %h11⟩, ⟨%f12, HW12, %h12⟩⟩
    unfold k0_t1_body
    sl_exec
    sl_step
    isplitl [HR6]; · iexact HR6
    isplitl [HR7]; · iexact HR7
    isplitl [HR8]; · iexact HR8
    isplitl [HR9]; · iexact HR9
    isplitl [HW11]
    · iexists _; isplitl [HW11]; · iexact HW11
      ipureintro; rw [iter_succ, ← h11] <;> rfl
    iexists _; isplitl [HW12]; · iexact HW12
    ipureintro; rw [iter_succ, ← h12] <;> rfl

set_option warn.classDefReducibility false in
set_option maxHeartbeats 2000000 in
/-- The loop over the tiles below the diagonal: unnormalised probabilities, block maxima and block sums of a tile at each trip. -/
@[sl_loop] def loop2 (𝒱 : Variants) (c : Dev nD) (bd : Option 𝒱.V) (E : Set ℕ) (i : grid0.Coords) (arg4 : Memref sig .tc .vmem S1x1x256x128 .fp8e4m3) (harg4 : arg4.IsWhole) (arg5 : Memref sig .tc .vmem S1x1x256x4 .i8) (harg5 : arg5.IsWhole) (arg6 : Memref sig .tc .vmem S1x1x12288x128 .fp8e4m3) (harg6 : arg6.IsWhole) (arg7 : Memref sig .tc .vmem S1x1x12288x4 .i8) (harg7 : arg7.IsWhole) (arg8 : Memref sig .tc .vmem S1x1x128x12288 .fp8e4m3) (harg8 : arg8.IsWhole) (arg9 : Memref sig .tc .vmem S1x1x48x128x8 .i8) (harg9 : arg9.IsWhole) (arg10 : Memref sig .tc .vmem S1x1x256x128 .bf16) (harg10 : arg10.IsWhole) (arg11 : Memref sig .tc .vmem S12288x128 .bf16) (harg11 : arg11.IsWhole) (arg12 : Memref sig .tc .vmem S48x128x256 .bf16) (harg12 : arg12.IsWhole) (arg13 : Memref sig .tc .vmem S48x32x8x256 .f32) (harg13 : arg13.IsWhole) (arg14 : Memref sig .tc .vmem S48x8x256 .f32) (harg14 : arg14.IsWhole) (arg15 : Memref sig .tc .vmem S48x8x256 .f32) (harg15 : arg15.IsWhole) (arg16 : Memref sig .tc .vmem S48x8x256 .f32) (harg16 : arg16.IsWhole) (arg17 : Memref sig .tc .vmem S48x16x256 .bf16) (harg17 : arg17.IsWhole) (arg3 : BitVec 32) (v9 : FVec F S256x4 .bf16) (v39 : FVec F S4x128 .bf16) (cst : FVec F S256x128 .f32) (v45 : Vec F S1x1x256x128 .fp8e4m3) (X_arg11 : BufTy.Contents (Elt F) arg11.view.ty) (G_arg13 : BufTy.Contents (Elt F) arg13.view.ty) (G_arg14 : BufTy.Contents (Elt F) arg14.view.ty) (G_arg15 : BufTy.Contents (Elt F) arg15.view.ty) (init : BitVec 32) :
    LoopInvTy_k0_t2 (F := F) Unit ℕ (UR sig nD τ) ℕ 𝒱 c bd E i arg4 harg4 arg5 harg5 arg6 harg6 arg7 harg7 arg8 harg8 arg9 harg9 arg10 harg10 arg11 harg11 arg12 harg12 arg13 harg13 arg14 harg14 arg15 harg15 arg16 harg16 arg17 harg17 arg3 v9 v39 cst v45 init where
  inv k _ := iprop((arg11.view.loc (c : Thread nD τ) ↦[arg11.view.set]{fullShare} X_arg11) ∗ (∃ f, (arg13.view.loc (c : Thread nD τ) ↦[arg13.view.set]{fullShare} f) ∗ ⌜f = iter (fun k g => arg13.view.writes (Elt F) g [⟨(Rect.unit (s := S48x32x8x256) (k0_off8 i k) S1x32x8x256.size (k0_off8_inb i k)), k0_pay42 v9 v39 cst v45 (arg11.view.readAt (Elt F) (Rect.unit (s := S12288x128) (k0_off7 i k) S256x128.size (k0_off7_inb i k)).toLoadRect X_arg11)⟩]) G_arg13 k⌝) ∗ (∃ f, (arg14.view.loc (c : Thread nD τ) ↦[arg14.view.set]{fullShare} f) ∗ ⌜f = iter (fun k g => arg14.view.writes (Elt F) g [⟨(Rect.unit (s := S48x8x256) (k0_off9 i k) S1x8x256.size (k0_off9_inb i k)), k0_pay43 v9 v39 cst v45 (arg11.view.readAt (Elt F) (Rect.unit (s := S12288x128) (k0_off7 i k) S256x128.size (k0_off7_inb i k)).toLoadRect X_arg11)⟩]) G_arg14 k⌝) ∗ (∃ f, (arg15.view.loc (c : Thread nD τ) ↦[arg15.view.set]{fullShare} f) ∗ ⌜f = iter (fun k g => arg15.view.writes (Elt F) g [⟨(Rect.unit (s := S48x8x256) (k0_off9 i k) S1x8x256.size (k0_off9_inb i k)), k0_pay44 v9 v39 cst v45 (arg11.view.readAt (Elt F) (Rect.unit (s := S12288x128) (k0_off7 i k) S256x128.size (k0_off7_inb i k)).toLoadRect X_arg11)⟩]) G_arg15 k⌝))
  step k acc := by
    iintro ⟨HR11, ⟨%f13, HW13, %h13⟩, ⟨%f14, HW14, %h14⟩, ⟨%f15, HW15, %h15⟩⟩
    unfold k0_t2_body
    sl_exec
    sl_step
    isplitl [HR11]; · iexact HR11
    isplitl [HW13]
    · iexists _; isplitl [HW13]; · iexact HW13
      ipureintro; rw [iter_succ, ← h13] <;> rfl
    isplitl [HW14]
    · iexists _; isplitl [HW14]; · iexact HW14
      ipureintro; rw [iter_succ, ← h14] <;> rfl
    iexists _; isplitl [HW15]; · iexact HW15
    ipureintro; rw [iter_succ, ← h15] <;> rfl

set_option warn.classDefReducibility false in
set_option maxHeartbeats 2000000 in
/-- The loop that takes the running maximum of the block maxima. -/
@[sl_loop] def loop4 (𝒱 : Variants) (c : Dev nD) (bd : Option 𝒱.V) (E : Set ℕ) (i : grid0.Coords) (arg4 : Memref sig .tc .vmem S1x1x256x128 .fp8e4m3) (harg4 : arg4.IsWhole) (arg5 : Memref sig .tc .vmem S1x1x256x4 .i8) (harg5 : arg5.IsWhole) (arg6 : Memref sig .tc .vmem S1x1x12288x128 .fp8e4m3) (harg6 : arg6.IsWhole) (arg7 : Memref sig .tc .vmem S1x1x12288x4 .i8) (harg7 : arg7.IsWhole) (arg8 : Memref sig .tc .vmem S1x1x128x12288 .fp8e4m3) (harg8 : arg8.IsWhole) (arg9 : Memref sig .tc .vmem S1x1x48x128x8 .i8) (harg9 : arg9.IsWhole) (arg10 : Memref sig .tc .vmem S1x1x256x128 .bf16) (harg10 : arg10.IsWhole) (arg11 : Memref sig .tc .vmem S12288x128 .bf16) (harg11 : arg11.IsWhole) (arg12 : Memref sig .tc .vmem S48x128x256 .bf16) (harg12 : arg12.IsWhole) (arg13 : Memref sig .tc .vmem S48x32x8x256 .f32) (harg13 : arg13.IsWhole) (arg14 : Memref sig .tc .vmem S48x8x256 .f32) (harg14 : arg14.IsWhole) (arg15 : Memref sig .tc .vmem S48x8x256 .f32) (harg15 : arg15.IsWhole) (arg16 : Memref sig .tc .vmem S48x8x256 .f32) (harg16 : arg16.IsWhole) (arg17 : Memref sig .tc .vmem S48x16x256 .bf16) (harg17 : arg17.IsWhole) (arg3 : BitVec 32) (v111 : FVec F S8x256 .f32) (v117 : FVec F S32x8x256 .f32) (v123 : Vec F S1x8x256 .f32) (X_arg14 : BufTy.Contents (Elt F) arg14.view.ty) (init : FVec F S8x256 .f32) :
    LoopInvTy_k0_t4 (F := F) Unit ℕ (UR sig nD τ) ℕ 𝒱 c bd E i arg4 harg4 arg5 harg5 arg6 harg6 arg7 harg7 arg8 harg8 arg9 harg9 arg10 harg10 arg11 harg11 arg12 harg12 arg13 harg13 arg14 harg14 arg15 harg15 arg16 harg16 arg17 harg17 arg3 v111 v117 v123 init where
  inv k acc := iprop((arg14.view.loc (c : Thread nD τ) ↦[arg14.view.set]{fullShare} X_arg14) ∗ ⌜acc = iter (fun k a => k0_pay61 a (arg14.view.readAt (Elt F) (Rect.unit (s := S48x8x256) (k0_off16 i k) S1x8x256.size (k0_off16_inb i k)).toLoadRect X_arg14)) init k⌝)
  step k acc := by
    iintro ⟨HR14, %ha⟩
    unfold k0_t4_body
    sl_exec
    sl_step
    isplitl [HR14]; · iexact HR14
    ipureintro; rw [iter_succ, ← ha] <;> rfl

set_option warn.classDefReducibility false in
set_option maxHeartbeats 2000000 in
/-- The loop that stores the weight of each block against the row maximum and sums up the normaliser. -/
@[sl_loop] def loop6 (𝒱 : Variants) (c : Dev nD) (bd : Option 𝒱.V) (E : Set ℕ) (i : grid0.Coords) (arg4 : Memref sig .tc .vmem S1x1x256x128 .fp8e4m3) (harg4 : arg4.IsWhole) (arg5 : Memref sig .tc .vmem S1x1x256x4 .i8) (harg5 : arg5.IsWhole) (arg6 : Memref sig .tc .vmem S1x1x12288x128 .fp8e4m3) (harg6 : arg6.IsWhole) (arg7 : Memref sig .tc .vmem S1x1x12288x4 .i8) (harg7 : arg7.IsWhole) (arg8 : Memref sig .tc .vmem S1x1x128x12288 .fp8e4m3) (harg8 : arg8.IsWhole) (arg9 : Memref sig .tc .vmem S1x1x48x128x8 .i8) (harg9 : arg9.IsWhole) (arg10 : Memref sig .tc .vmem S1x1x256x128 .bf16) (harg10 : arg10.IsWhole) (arg11 : Memref sig .tc .vmem S12288x128 .bf16) (harg11 : arg11.IsWhole) (arg12 : Memref sig .tc .vmem S48x128x256 .bf16) (harg12 : arg12.IsWhole) (arg13 : Memref sig .tc .vmem S48x32x8x256 .f32) (harg13 : arg13.IsWhole) (arg14 : Memref sig .tc .vmem S48x8x256 .f32) (harg14 : arg14.IsWhole) (arg15 : Memref sig .tc .vmem S48x8x256 .f32) (harg15 : arg15.IsWhole) (arg16 : Memref sig .tc .vmem S48x8x256 .f32) (harg16 : arg16.IsWhole) (arg17 : Memref sig .tc .vmem S48x16x256 .bf16) (harg17 : arg17.IsWhole) (arg3 : BitVec 32) (v111 : FVec F S8x256 .f32) (v117 : FVec F S32x8x256 .f32) (v123 : Vec F S1x8x256 .f32) (v139 : FVec F S8x256 .f32) (X_arg14 : BufTy.Contents (Elt F) arg14.view.ty) (X_arg15 : BufTy.Contents (Elt F) arg15.view.ty) (G_arg16 : BufTy.Contents (Elt F) arg16.view.ty) (init : FVec F S8x256 .f32) :
    LoopInvTy_k0_t6 (F := F) Unit ℕ (UR sig nD τ) ℕ 𝒱 c bd E i arg4 harg4 arg5 harg5 arg6 harg6 arg7 harg7 arg8 harg8 arg9 harg9 arg10 harg10 arg11 harg11 arg12 harg12 arg13 harg13 arg14 harg14 arg15 harg15 arg16 harg16 arg17 harg17 arg3 v111 v117 v123 v139 init where
  inv k acc := iprop((arg14.view.loc (c : Thread nD τ) ↦[arg14.view.set]{fullShare} X_arg14) ∗ (arg15.view.loc (c : Thread nD τ) ↦[arg15.view.set]{fullShare} X_arg15) ∗ (∃ f, (arg16.view.loc (c : Thread nD τ) ↦[arg16.view.set]{fullShare} f) ∗ ⌜f = iter (fun k g => arg16.view.writes (Elt F) g [⟨(Rect.unit (s := S48x8x256) (k0_off18 i k) S1x8x256.size (k0_off18_inb i k)), k0_pay66 v139 (arg14.view.readAt (Elt F) (Rect.unit (s := S48x8x256) (k0_off18 i k) S1x8x256.size (k0_off18_inb i k)).toLoadRect X_arg14)⟩]) G_arg16 k⌝) ∗ ⌜acc = iter (fun k a => k0_pay67 v139 a (arg14.view.readAt (Elt F) (Rect.unit (s := S48x8x256) (k0_off18 i k) S1x8x256.size (k0_off18_inb i k)).toLoadRect X_arg14) (arg15.view.readAt (Elt F) (Rect.unit (s := S48x8x256) (k0_off18 i k) S1x8x256.size (k0_off18_inb i k)).toLoadRect X_arg15)) init k⌝)
  step k acc := by
    iintro ⟨HR14, HR15, ⟨%f16, HW16, %h16⟩, %ha⟩
    unfold k0_t6_body
    sl_exec
    sl_step
    isplitl [HR14]; · iexact HR14
    isplitl [HR15]; · iexact HR15
    isplitl [HW16]
    · iexists _; isplitl [HW16]; · iexact HW16
      ipureintro; rw [iter_succ, ← h16] <;> rfl
    ipureintro; rw [iter_succ, ← ha] <;> rfl

/-- The gain of a block from the reciprocal `v153` of the normaliser and the block's weight `x`. -/
def gainOf (v153 : FVec F S1x256 .f32) (x : Vec F S1x8x256 .f32) : Vec F S1x8x256 .f32 :=
  k0_pay73 (k0_pay16 v153 x) (k0_pay22 (F := F) (k0_pay17 v153 x) (k0_pay18 v153 x) (k0_pay19 v153 x) (k0_pay20 v153 x)) (k0_pay23 (F := F) (k0_pay17 v153 x) (k0_pay18 v153 x) (k0_pay19 v153 x) (k0_pay20 v153 x)) (k0_pay24)

/-- The scale of a block, as the eight rows of its tile's lower half and sixteen rows in all. -/
def scaleOf (v153 : FVec F S1x256 .f32) (x : Vec F S1x8x256 .f32) : Vec F S1x16x256 .bf16 :=
  k0_pay74 (F := F) (k0_pay22 (F := F) (k0_pay17 v153 x) (k0_pay18 v153 x) (k0_pay19 v153 x) (k0_pay20 v153 x)) (k0_pay23 (F := F) (k0_pay17 v153 x) (k0_pay18 v153 x) (k0_pay19 v153 x) (k0_pay20 v153 x)) (k0_pay24)

/-- What the quantiser loop has written before trip `k` over the contents `G` of the buffer of the block weights, last first: the
   gains take the weights' place, a tile at each trip. -/
def gains (i : grid0.Coords) (arg16 : Memref sig .tc .vmem S48x8x256 .f32) (v149 : FVec F S8x256 .f32) (G : BufTy.Contents (Elt F) arg16.view.ty) : ℕ → List (View.Piece (Elt F) S48x8x256 .f32)
  | 0 => []
  | k + 1 => if h : k < (k0_t8_loop i).trips then
      ⟨(Rect.unit (s := S48x8x256) (k0_off20 i ⟨k, h⟩) S1x8x256.size (k0_off20_inb i ⟨k, h⟩)),
        gainOf (k0_pay71 v149) (arg16.view.readAt (Elt F) (Rect.unit (s := S48x8x256) (k0_off20 i ⟨k, h⟩) S1x8x256.size (k0_off20_inb i ⟨k, h⟩)).toLoadRect (arg16.view.writes (Elt F) G (gains i arg16 v149 G k)))⟩ :: gains i arg16 v149 G k
    else gains i arg16 v149 G k

theorem gains_succ (i : grid0.Coords) (arg16 : Memref sig .tc .vmem S48x8x256 .f32) (v149 : FVec F S8x256 .f32) (G : BufTy.Contents (Elt F) arg16.view.ty) (k : Fin (k0_t8_loop i).trips) :
    gains (F := F) i arg16 v149 G (k.val + 1) = ⟨(Rect.unit (s := S48x8x256) (k0_off20 i k) S1x8x256.size (k0_off20_inb i k)),
        gainOf (k0_pay71 v149) (arg16.view.readAt (Elt F) (Rect.unit (s := S48x8x256) (k0_off20 i k) S1x8x256.size (k0_off20_inb i k)).toLoadRect (arg16.view.writes (Elt F) G (gains (F := F) i arg16 v149 G k.val)))⟩ :: gains (F := F) i arg16 v149 G k.val := dif_pos k.isLt

set_option warn.classDefReducibility false in
set_option maxHeartbeats 2000000 in
/-- The loop that turns each block weight into the gain and the scale that the quantiser multiplies by. -/
@[sl_loop] def loop8 (𝒱 : Variants) (c : Dev nD) (bd : Option 𝒱.V) (E : Set ℕ) (i : grid0.Coords) (arg4 : Memref sig .tc .vmem S1x1x256x128 .fp8e4m3) (harg4 : arg4.IsWhole) (arg5 : Memref sig .tc .vmem S1x1x256x4 .i8) (harg5 : arg5.IsWhole) (arg6 : Memref sig .tc .vmem S1x1x12288x128 .fp8e4m3) (harg6 : arg6.IsWhole) (arg7 : Memref sig .tc .vmem S1x1x12288x4 .i8) (harg7 : arg7.IsWhole) (arg8 : Memref sig .tc .vmem S1x1x128x12288 .fp8e4m3) (harg8 : arg8.IsWhole) (arg9 : Memref sig .tc .vmem S1x1x48x128x8 .i8) (harg9 : arg9.IsWhole) (arg10 : Memref sig .tc .vmem S1x1x256x128 .bf16) (harg10 : arg10.IsWhole) (arg11 : Memref sig .tc .vmem S12288x128 .bf16) (harg11 : arg11.IsWhole) (arg12 : Memref sig .tc .vmem S48x128x256 .bf16) (harg12 : arg12.IsWhole) (arg13 : Memref sig .tc .vmem S48x32x8x256 .f32) (harg13 : arg13.IsWhole) (arg14 : Memref sig .tc .vmem S48x8x256 .f32) (harg14 : arg14.IsWhole) (arg15 : Memref sig .tc .vmem S48x8x256 .f32) (harg15 : arg15.IsWhole) (arg16 : Memref sig .tc .vmem S48x8x256 .f32) (harg16 : arg16.IsWhole) (arg17 : Memref sig .tc .vmem S48x16x256 .bf16) (harg17 : arg17.IsWhole) (arg3 : BitVec 32) (v111 : FVec F S8x256 .f32) (v117 : FVec F S32x8x256 .f32) (v123 : Vec F S1x8x256 .f32) (v149 : FVec F S8x256 .f32) (G_arg16 : BufTy.Contents (Elt F) arg16.view.ty) (G_arg17 : BufTy.Contents (Elt F) arg17.view.ty) (init : BitVec 32) :
    LoopInvTy_k0_t8 (F := F) Unit ℕ (UR sig nD τ) ℕ 𝒱 c bd E i arg4 harg4 arg5 harg5 arg6 harg6 arg7 harg7 arg8 harg8 arg9 harg9 arg10 harg10 arg11 harg11 arg12 harg12 arg13 harg13 arg14 harg14 arg15 harg15 arg16 harg16 arg17 harg17 arg3 v111 v117 v123 v149 init where
  inv k _ := iprop((∃ f, (arg16.view.loc (c : Thread nD τ) ↦[arg16.view.set]{fullShare} f) ∗ ⌜f = arg16.view.writes (Elt F) G_arg16 (gains (F := F) i arg16 v149 G_arg16 k)⌝) ∗ (∃ f, (arg17.view.loc (c : Thread nD τ) ↦[arg17.view.set]{fullShare} f) ∗ ⌜f = iter (fun k g => arg17.view.writes (Elt F) g [⟨(Rect.unit (s := S48x16x256) (k0_off21 i k) S1x16x256.size (k0_off21_inb i k)), scaleOf (k0_pay71 v149) (arg16.view.readAt (Elt F) (Rect.unit (s := S48x8x256) (k0_off20 i k) S1x8x256.size (k0_off20_inb i k)).toLoadRect (arg16.view.writes (Elt F) G_arg16 (gains (F := F) i arg16 v149 G_arg16 k.val)))⟩]) G_arg17 k⌝))
  step k acc := by
    iintro ⟨⟨%f16, HW16, %h16⟩, ⟨%f17, HW17, %h17⟩⟩
    unfold k0_t8_body
    sl_exec
    sl_step
    isplitl [HW16]
    · iexists _; isplitl [HW16]; · iexact HW16
      ipureintro; rw [gains_succ, ← h16, View.writes_cons, View.writes_nil, View.writes_cons, ← h16] <;> rfl
    iexists _; isplitl [HW17]; · iexact HW17
    ipureintro; rw [iter_succ, ← h17, ← h16] <;> rfl

set_option warn.classDefReducibility false in
set_option maxHeartbeats 2000000 in
/-- The loop that adds up the weighted values, a tile at each trip. -/
@[sl_loop] def loop10 (𝒱 : Variants) (c : Dev nD) (bd : Option 𝒱.V) (E : Set ℕ) (i : grid0.Coords) (arg4 : Memref sig .tc .vmem S1x1x256x128 .fp8e4m3) (harg4 : arg4.IsWhole) (arg5 : Memref sig .tc .vmem S1x1x256x4 .i8) (harg5 : arg5.IsWhole) (arg6 : Memref sig .tc .vmem S1x1x12288x128 .fp8e4m3) (harg6 : arg6.IsWhole) (arg7 : Memref sig .tc .vmem S1x1x12288x4 .i8) (harg7 : arg7.IsWhole) (arg8 : Memref sig .tc .vmem S1x1x128x12288 .fp8e4m3) (harg8 : arg8.IsWhole) (arg9 : Memref sig .tc .vmem S1x1x48x128x8 .i8) (harg9 : arg9.IsWhole) (arg10 : Memref sig .tc .vmem S1x1x256x128 .bf16) (harg10 : arg10.IsWhole) (arg11 : Memref sig .tc .vmem S12288x128 .bf16) (harg11 : arg11.IsWhole) (arg12 : Memref sig .tc .vmem S48x128x256 .bf16) (harg12 : arg12.IsWhole) (arg13 : Memref sig .tc .vmem S48x32x8x256 .f32) (harg13 : arg13.IsWhole) (arg14 : Memref sig .tc .vmem S48x8x256 .f32) (harg14 : arg14.IsWhole) (arg15 : Memref sig .tc .vmem S48x8x256 .f32) (harg15 : arg15.IsWhole) (arg16 : Memref sig .tc .vmem S48x8x256 .f32) (harg16 : arg16.IsWhole) (arg17 : Memref sig .tc .vmem S48x16x256 .bf16) (harg17 : arg17.IsWhole)  (X_arg12 : BufTy.Contents (Elt F) arg12.view.ty) (X_arg13 : BufTy.Contents (Elt F) arg13.view.ty) (X_arg16 : BufTy.Contents (Elt F) arg16.view.ty) (X_arg17 : BufTy.Contents (Elt F) arg17.view.ty) (init : FVec F S128x256 .f32) :
    LoopInvTy_k0_t10 (F := F) Unit ℕ (UR sig nD τ) ℕ 𝒱 c bd E i arg4 harg4 arg5 harg5 arg6 harg6 arg7 harg7 arg8 harg8 arg9 harg9 arg10 harg10 arg11 harg11 arg12 harg12 arg13 harg13 arg14 harg14 arg15 harg15 arg16 harg16 arg17 harg17  init where
  inv k acc := iprop((arg12.view.loc (c : Thread nD τ) ↦[arg12.view.set]{fullShare} X_arg12) ∗ (arg13.view.loc (c : Thread nD τ) ↦[arg13.view.set]{fullShare} X_arg13) ∗ (arg16.view.loc (c : Thread nD τ) ↦[arg16.view.set]{fullShare} X_arg16) ∗ (arg17.view.loc (c : Thread nD τ) ↦[arg17.view.set]{fullShare} X_arg17) ∗ ⌜acc = iter (fun k a => k0_pay5 a (arg13.view.readAt (Elt F) (Rect.unit (s := S48x32x8x256) (k0_off24 i k) S1x32x8x256.size (k0_off24_inb i k)).toLoadRect X_arg13) (arg16.view.readAt (Elt F) (Rect.unit (s := S48x8x256) (k0_off25 i k) S1x8x256.size (k0_off25_inb i k)).toLoadRect X_arg16) (arg17.view.readAt (Elt F) (Rect.unit (s := S48x16x256) (k0_off26 i k) S1x16x256.size (k0_off26_inb i k)).toLoadRect X_arg17) (arg12.view.readAt (Elt F) (Rect.unit (s := S48x128x256) (k0_off27 i k) S1x128x256.size (k0_off27_inb i k)).toLoadRect X_arg12)) init k⌝)
  step k acc := by
    iintro ⟨HR12, HR13, HR16, HR17, %ha⟩
    unfold k0_t10_body
    sl_exec
    sl_step
    isplitl [HR12]; · iexact HR12
    isplitl [HR13]; · iexact HR13
    isplitl [HR16]; · iexact HR16
    isplitl [HR17]; · iexact HR17
    ipureintro; rw [iter_succ, ← ha] <;> rfl

set_option warn.classDefReducibility false in
/-- A remainder loop of no trips: its carried value stays as it was. -/
@[sl_loop] def loop3 (𝒱 : Variants) (c : Dev nD) (bd : Option 𝒱.V) (E : Set ℕ) (i : grid0.Coords) (arg4 : Memref sig .tc .vmem S1x1x256x128 .fp8e4m3) (harg4 : arg4.IsWhole) (arg5 : Memref sig .tc .vmem S1x1x256x4 .i8) (harg5 : arg5.IsWhole) (arg6 : Memref sig .tc .vmem S1x1x12288x128 .fp8e4m3) (harg6 : arg6.IsWhole) (arg7 : Memref sig .tc .vmem S1x1x12288x4 .i8) (harg7 : arg7.IsWhole) (arg8 : Memref sig .tc .vmem S1x1x128x12288 .fp8e4m3) (harg8 : arg8.IsWhole) (arg9 : Memref sig .tc .vmem S1x1x48x128x8 .i8) (harg9 : arg9.IsWhole) (arg10 : Memref sig .tc .vmem S1x1x256x128 .bf16) (harg10 : arg10.IsWhole) (arg11 : Memref sig .tc .vmem S12288x128 .bf16) (harg11 : arg11.IsWhole) (arg12 : Memref sig .tc .vmem S48x128x256 .bf16) (harg12 : arg12.IsWhole) (arg13 : Memref sig .tc .vmem S48x32x8x256 .f32) (harg13 : arg13.IsWhole) (arg14 : Memref sig .tc .vmem S48x8x256 .f32) (harg14 : arg14.IsWhole) (arg15 : Memref sig .tc .vmem S48x8x256 .f32) (harg15 : arg15.IsWhole) (arg16 : Memref sig .tc .vmem S48x8x256 .f32) (harg16 : arg16.IsWhole) (arg17 : Memref sig .tc .vmem S48x16x256 .bf16) (harg17 : arg17.IsWhole) (arg3 : BitVec 32) (v9 : FVec F S256x4 .bf16) (v39 : FVec F S4x128 .bf16) (cst : FVec F S256x128 .f32) (v45 : Vec F S1x1x256x128 .fp8e4m3) (init : BitVec 32) :
    LoopInvTy_k0_t3 (F := F) Unit ℕ (UR sig nD τ) ℕ 𝒱 c bd E i arg4 harg4 arg5 harg5 arg6 harg6 arg7 harg7 arg8 harg8 arg9 harg9 arg10 harg10 arg11 harg11 arg12 harg12 arg13 harg13 arg14 harg14 arg15 harg15 arg16 harg16 arg17 harg17 arg3 v9 v39 cst v45 init where
  inv _ acc := iprop(⌜acc = init⌝)
  step k _ := absurd k.isLt (Nat.not_lt.2 (Nat.le_trans (k0_t3_abs i).2.1 (Nat.zero_le _)))

set_option warn.classDefReducibility false in
/-- A remainder loop of no trips: its carried value stays as it was. -/
@[sl_loop] def loop5 (𝒱 : Variants) (c : Dev nD) (bd : Option 𝒱.V) (E : Set ℕ) (i : grid0.Coords) (arg4 : Memref sig .tc .vmem S1x1x256x128 .fp8e4m3) (harg4 : arg4.IsWhole) (arg5 : Memref sig .tc .vmem S1x1x256x4 .i8) (harg5 : arg5.IsWhole) (arg6 : Memref sig .tc .vmem S1x1x12288x128 .fp8e4m3) (harg6 : arg6.IsWhole) (arg7 : Memref sig .tc .vmem S1x1x12288x4 .i8) (harg7 : arg7.IsWhole) (arg8 : Memref sig .tc .vmem S1x1x128x12288 .fp8e4m3) (harg8 : arg8.IsWhole) (arg9 : Memref sig .tc .vmem S1x1x48x128x8 .i8) (harg9 : arg9.IsWhole) (arg10 : Memref sig .tc .vmem S1x1x256x128 .bf16) (harg10 : arg10.IsWhole) (arg11 : Memref sig .tc .vmem S12288x128 .bf16) (harg11 : arg11.IsWhole) (arg12 : Memref sig .tc .vmem S48x128x256 .bf16) (harg12 : arg12.IsWhole) (arg13 : Memref sig .tc .vmem S48x32x8x256 .f32) (harg13 : arg13.IsWhole) (arg14 : Memref sig .tc .vmem S48x8x256 .f32) (harg14 : arg14.IsWhole) (arg15 : Memref sig .tc .vmem S48x8x256 .f32) (harg15 : arg15.IsWhole) (arg16 : Memref sig .tc .vmem S48x8x256 .f32) (harg16 : arg16.IsWhole) (arg17 : Memref sig .tc .vmem S48x16x256 .bf16) (harg17 : arg17.IsWhole) (arg3 : BitVec 32) (v111 : FVec F S8x256 .f32) (v117 : FVec F S32x8x256 .f32) (v123 : Vec F S1x8x256 .f32) (init : FVec F S8x256 .f32) :
    LoopInvTy_k0_t5 (F := F) Unit ℕ (UR sig nD τ) ℕ 𝒱 c bd E i arg4 harg4 arg5 harg5 arg6 harg6 arg7 harg7 arg8 harg8 arg9 harg9 arg10 harg10 arg11 harg11 arg12 harg12 arg13 harg13 arg14 harg14 arg15 harg15 arg16 harg16 arg17 harg17 arg3 v111 v117 v123 init where
  inv _ acc := iprop(⌜acc = init⌝)
  step k _ := absurd k.isLt (Nat.not_lt.2 (Nat.le_trans (k0_t5_abs i).2.1 (Nat.zero_le _)))

set_option warn.classDefReducibility false in
/-- A remainder loop of no trips: its carried value stays as it was. -/
@[sl_loop] def loop7 (𝒱 : Variants) (c : Dev nD) (bd : Option 𝒱.V) (E : Set ℕ) (i : grid0.Coords) (arg4 : Memref sig .tc .vmem S1x1x256x128 .fp8e4m3) (harg4 : arg4.IsWhole) (arg5 : Memref sig .tc .vmem S1x1x256x4 .i8) (harg5 : arg5.IsWhole) (arg6 : Memref sig .tc .vmem S1x1x12288x128 .fp8e4m3) (harg6 : arg6.IsWhole) (arg7 : Memref sig .tc .vmem S1x1x12288x4 .i8) (harg7 : arg7.IsWhole) (arg8 : Memref sig .tc .vmem S1x1x128x12288 .fp8e4m3) (harg8 : arg8.IsWhole) (arg9 : Memref sig .tc .vmem S1x1x48x128x8 .i8) (harg9 : arg9.IsWhole) (arg10 : Memref sig .tc .vmem S1x1x256x128 .bf16) (harg10 : arg10.IsWhole) (arg11 : Memref sig .tc .vmem S12288x128 .bf16) (harg11 : arg11.IsWhole) (arg12 : Memref sig .tc .vmem S48x128x256 .bf16) (harg12 : arg12.IsWhole) (arg13 : Memref sig .tc .vmem S48x32x8x256 .f32) (harg13 : arg13.IsWhole) (arg14 : Memref sig .tc .vmem S48x8x256 .f32) (harg14 : arg14.IsWhole) (arg15 : Memref sig .tc .vmem S48x8x256 .f32) (harg15 : arg15.IsWhole) (arg16 : Memref sig .tc .vmem S48x8x256 .f32) (harg16 : arg16.IsWhole) (arg17 : Memref sig .tc .vmem S48x16x256 .bf16) (harg17 : arg17.IsWhole) (arg3 : BitVec 32) (v111 : FVec F S8x256 .f32) (v117 : FVec F S32x8x256 .f32) (v123 : Vec F S1x8x256 .f32) (v139 : FVec F S8x256 .f32) (init : FVec F S8x256 .f32) :
    LoopInvTy_k0_t7 (F := F) Unit ℕ (UR sig nD τ) ℕ 𝒱 c bd E i arg4 harg4 arg5 harg5 arg6 harg6 arg7 harg7 arg8 harg8 arg9 harg9 arg10 harg10 arg11 harg11 arg12 harg12 arg13 harg13 arg14 harg14 arg15 harg15 arg16 harg16 arg17 harg17 arg3 v111 v117 v123 v139 init where
  inv _ acc := iprop(⌜acc = init⌝)
  step k _ := absurd k.isLt (Nat.not_lt.2 (Nat.le_trans (k0_t7_abs i).2.1 (Nat.zero_le _)))

set_option warn.classDefReducibility false in
/-- A remainder loop of no trips: its carried value stays as it was. -/
@[sl_loop] def loop9 (𝒱 : Variants) (c : Dev nD) (bd : Option 𝒱.V) (E : Set ℕ) (i : grid0.Coords) (arg4 : Memref sig .tc .vmem S1x1x256x128 .fp8e4m3) (harg4 : arg4.IsWhole) (arg5 : Memref sig .tc .vmem S1x1x256x4 .i8) (harg5 : arg5.IsWhole) (arg6 : Memref sig .tc .vmem S1x1x12288x128 .fp8e4m3) (harg6 : arg6.IsWhole) (arg7 : Memref sig .tc .vmem S1x1x12288x4 .i8) (harg7 : arg7.IsWhole) (arg8 : Memref sig .tc .vmem S1x1x128x12288 .fp8e4m3) (harg8 : arg8.IsWhole) (arg9 : Memref sig .tc .vmem S1x1x48x128x8 .i8) (harg9 : arg9.IsWhole) (arg10 : Memref sig .tc .vmem S1x1x256x128 .bf16) (harg10 : arg10.IsWhole) (arg11 : Memref sig .tc .vmem S12288x128 .bf16) (harg11 : arg11.IsWhole) (arg12 : Memref sig .tc .vmem S48x128x256 .bf16) (harg12 : arg12.IsWhole) (arg13 : Memref sig .tc .vmem S48x32x8x256 .f32) (harg13 : arg13.IsWhole) (arg14 : Memref sig .tc .vmem S48x8x256 .f32) (harg14 : arg14.IsWhole) (arg15 : Memref sig .tc .vmem S48x8x256 .f32) (harg15 : arg15.IsWhole) (arg16 : Memref sig .tc .vmem S48x8x256 .f32) (harg16 : arg16.IsWhole) (arg17 : Memref sig .tc .vmem S48x16x256 .bf16) (harg17 : arg17.IsWhole) (v153 : FVec F S1x256 .f32) (v158 : BitVec 32) (c1_i32_63 : BitVec 32) (init : BitVec 32) :
    LoopInvTy_k0_t9 (F := F) Unit ℕ (UR sig nD τ) ℕ 𝒱 c bd E i arg4 harg4 arg5 harg5 arg6 harg6 arg7 harg7 arg8 harg8 arg9 harg9 arg10 harg10 arg11 harg11 arg12 harg12 arg13 harg13 arg14 harg14 arg15 harg15 arg16 harg16 arg17 harg17 v153 v158 c1_i32_63 init where
  inv _ acc := iprop(⌜acc = init⌝)
  step k _ := absurd k.isLt (Nat.not_lt.2 (Nat.le_trans (k0_t9_abs i).2.1 (Nat.zero_le _)))

set_option warn.classDefReducibility false in
/-- A remainder loop of no trips: its carried value stays as it was. -/
@[sl_loop] def loop11 (𝒱 : Variants) (c : Dev nD) (bd : Option 𝒱.V) (E : Set ℕ) (i : grid0.Coords) (arg4 : Memref sig .tc .vmem S1x1x256x128 .fp8e4m3) (harg4 : arg4.IsWhole) (arg5 : Memref sig .tc .vmem S1x1x256x4 .i8) (harg5 : arg5.IsWhole) (arg6 : Memref sig .tc .vmem S1x1x12288x128 .fp8e4m3) (harg6 : arg6.IsWhole) (arg7 : Memref sig .tc .vmem S1x1x12288x4 .i8) (harg7 : arg7.IsWhole) (arg8 : Memref sig .tc .vmem S1x1x128x12288 .fp8e4m3) (harg8 : arg8.IsWhole) (arg9 : Memref sig .tc .vmem S1x1x48x128x8 .i8) (harg9 : arg9.IsWhole) (arg10 : Memref sig .tc .vmem S1x1x256x128 .bf16) (harg10 : arg10.IsWhole) (arg11 : Memref sig .tc .vmem S12288x128 .bf16) (harg11 : arg11.IsWhole) (arg12 : Memref sig .tc .vmem S48x128x256 .bf16) (harg12 : arg12.IsWhole) (arg13 : Memref sig .tc .vmem S48x32x8x256 .f32) (harg13 : arg13.IsWhole) (arg14 : Memref sig .tc .vmem S48x8x256 .f32) (harg14 : arg14.IsWhole) (arg15 : Memref sig .tc .vmem S48x8x256 .f32) (harg15 : arg15.IsWhole) (arg16 : Memref sig .tc .vmem S48x8x256 .f32) (harg16 : arg16.IsWhole) (arg17 : Memref sig .tc .vmem S48x16x256 .bf16) (harg17 : arg17.IsWhole)  (init : FVec F S128x256 .f32) :
    LoopInvTy_k0_t11 (F := F) Unit ℕ (UR sig nD τ) ℕ 𝒱 c bd E i arg4 harg4 arg5 harg5 arg6 harg6 arg7 harg7 arg8 harg8 arg9 harg9 arg10 harg10 arg11 harg11 arg12 harg12 arg13 harg13 arg14 harg14 arg15 harg15 arg16 harg16 arg17 harg17  init where
  inv _ acc := iprop(⌜acc = init⌝)
  step k _ := absurd k.isLt (Nat.not_lt.2 (Nat.le_trans (k0_t11_abs i).2.1 (Nat.zero_le _)))

end Cert.KernelIdeal.Value
-- ==== Proof.KernelIdealFrame.lean ====
/- The frame of the idealized kernel: at any memory its run terminates, leaves every argument array as it was and every
   semaphore at zero. The body's triple keeps the six input blocks and says nothing about what the output block
   and the seven scratch buffers hold. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import proofs.«01_k».proof.Proof.KernelLoops
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body, on whole memrefs: the six inputs stay as they are, the output and the scratch buffers end at some contents. -/
theorem sound_kernel (c : Dev nD) (E : Set ℕ) (i : grid0.Coords) (arg4 : Memref sig .tc .vmem S1x1x256x128 .fp8e4m3) (harg4 : arg4.IsWhole) (arg5 : Memref sig .tc .vmem S1x1x256x4 .i8) (harg5 : arg5.IsWhole) (arg6 : Memref sig .tc .vmem S1x1x12288x128 .fp8e4m3) (harg6 : arg6.IsWhole) (arg7 : Memref sig .tc .vmem S1x1x12288x4 .i8) (harg7 : arg7.IsWhole) (arg8 : Memref sig .tc .vmem S1x1x128x12288 .fp8e4m3) (harg8 : arg8.IsWhole) (arg9 : Memref sig .tc .vmem S1x1x48x128x8 .i8) (harg9 : arg9.IsWhole) (arg10 : Memref sig .tc .vmem S1x1x256x128 .bf16) (harg10 : arg10.IsWhole) (arg11 : Memref sig .tc .vmem S12288x128 .bf16) (harg11 : arg11.IsWhole) (arg12 : Memref sig .tc .vmem S48x128x256 .bf16) (harg12 : arg12.IsWhole) (arg13 : Memref sig .tc .vmem S48x32x8x256 .f32) (harg13 : arg13.IsWhole) (arg14 : Memref sig .tc .vmem S48x8x256 .f32) (harg14 : arg14.IsWhole) (arg15 : Memref sig .tc .vmem S48x8x256 .f32) (harg15 : arg15.IsWhole) (arg16 : Memref sig .tc .vmem S48x8x256 .f32) (harg16 : arg16.IsWhole) (arg17 : Memref sig .tc .vmem S48x16x256 .bf16) (harg17 : arg17.IsWhole)
    (x0 : Vec F S1x1x256x128 .fp8e4m3) (x1 : Vec F S1x1x256x4 .i8) (x2 : Vec F S1x1x12288x128 .fp8e4m3) (x3 : Vec F S1x1x12288x4 .i8) (x4 : Vec F S1x1x128x12288 .fp8e4m3) (x5 : Vec F S1x1x48x128x8 .i8) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_mx_attn i arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mx_attn_eq_skeleton]; unfold cc0_mx_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5
  by_cases hc : k0_cond1 i = 1#1
  all_goals
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; iexists _; isplitr; swap; (iexact H6); ipureintro; rfl
    isplitl [H7]
    · iexists _; iexists _; isplitr; swap; (iexact H7); ipureintro; rfl
    isplitl [H8]
    · iexists _; iexists _; isplitr; swap; (iexact H8); ipureintro; rfl
    isplitl [H9]
    · iexists _; iexists _; isplitr; swap; (iexact H9); ipureintro; rfl
    isplitl [H10]
    · iexists _; iexists _; isplitr; swap; (iexact H10); ipureintro; rfl
    isplitl [H11]
    · iexists _; iexists _; isplitr; swap; (iexact H11); ipureintro; rfl
    isplitl [H12]
    · iexists _; iexists _; isplitr; swap; (iexact H12); ipureintro; rfl
    iexists _; iexists _; isplitr; swap; (iexact H13); ipureintro; rfl

variable (m : (ℓ : Loc nD τ sig) → Buf (Elt F) ℓ) (ρ : Dev nD → PrngReg)

/-- The output window is the one whose contents this frame does not state. -/
abbrev forgotten : Fin cfg0.W → Bool := fun w => decide (w = 6)

/-- The proof data: every window at its block of the arrays the region finds, the scratch buffers at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The region's invariant between points: the seven scratch buffers whole at some contents, and the generator register. -/
theorem ΦA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)
        ∗ (∃ d, owns (c : Thread nD τ) (Memref.whole cc0_scratch4) fullShare d) ∗ (∃ d, owns (c : Thread nD τ) (Memref.whole cc0_scratch5) fullShare d)
        ∗ (∃ d, owns (c : Thread nD τ) (Memref.whole cc0_scratch6) fullShare d)) ∗ ∃ r, prngReg c r) := by
  unfold Pipeline.ΦA
  rw [scopedRest0_eq]
  simp only [owns_whole]

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d))

set_option maxHeartbeats 1000000 in
/-- The body at any point, by its triple. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, after0_0, after0_1, after0_2, after0_3, after0_4, after0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, ΦA_eq]
  iintro ⟨⟨⟨S0, S1, S2, S3, S4, S5, S6⟩, Hr⟩, Ho, ⟨%d0, H0⟩, ⟨%d1, H1⟩, ⟨%d2, H2⟩, ⟨%d3, H3⟩, ⟨%d4, H4⟩, ⟨%d5, H5⟩, H6⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, S0, S1, S2, S3, S4, S5, S6⟩
  isplitl [S0 S1 S2 S3 S4 S5 S6 Hr]
  · isplitr [Hr]
    · isplitl [S0]; · iexact S0
      isplitl [S1]; · iexact S1
      isplitl [S2]; · iexact S2
      isplitl [S3]; · iexact S3
      isplitl [S4]; · iexact S4
      isplitl [S5]; · iexact S5
      iexact S6
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point, the output window's contents not stated. -/
theorem body_obligation (c : Dev nD) : BodyObligation (dats (F := F) m 0 c) (defs₀ (F := F)) Variants.none () Set.univ forgotten := fun t => by
  rw [bigSep_W0, bigSep_W0, defs₀_row]
  exact triple_restated (sound_body m c t) rfl .rfl fun _ => .rfl

set_option backward.isDefEq.respectTransparency.types false in
set_option maxHeartbeats 800000 in
/-- The launch: every execution terminates, each input array at what the region found, every semaphore at zero. -/
theorem run_main : θ_run defs (onTc (τ := τ) (main (F := F))) (s₀ m ρ)
    (fun r => Pipeline.RDat.FramePost cfg0 (fun c => (dats m 0 c).toRForget forgotten) (V m) r ∧ r.2.sem = fun _ => 0) :=
  Pipeline.θ_run_frame_forget (Q' := _) cfgs (dats m) (0 : Fin 1) launch0 defs₀ Variants.none forgotten m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim: every argument array ends as it was, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1.arr_in c 0 rfl).trans (V_main_arg0 m c), (h.1.arr_in c 1 rfl).trans (V_main_arg1 m c),
      (h.1.arr_in c 2 rfl).trans (V_main_arg2 m c), (h.1.arr_in c 3 rfl).trans (V_main_arg3 m c), (h.1.arr_in c 4 rfl).trans (V_main_arg4 m c),
      ((h.1 c).2 main_arg5 (Pipeline.mem_restRefs_of main_arg5 (by decide) (by decide))).trans (V_main_arg5 m c)⟩, h.2⟩) (run_main m ρ)

end Cert.KernelIdeal.Hand

end
-- ==== Proof.Words.lean ====
/- Powers of two as words over the extended reals: what the exponent field of a 32-bit float denotes, the search for the
   exponent field of a number below one, the two factors of a quantisation scale that the search yields, and the decoding
   of an eight-bit scale. -/
module

public import Idealize.ShloMosaic.PureOps.Ideal
public import Idealize.ShloMosaic.Lib.ValueIdx

@[expose] public section

noncomputable section

namespace Cert.Words

open Idealize.ShloMosaic

/-- The number with exponent field `e` and no fraction, by its power of two; field 0 is zero. -/
def pw (e : ℕ) : ℝ := if e = 0 then 0 else (2 : ℝ) ^ ((e : ℤ) - 127)

theorem pw_pos {e : ℕ} (h : e ≠ 0) : pw e = (2 : ℝ) ^ ((e : ℤ) - 127) := if_neg h

theorem pw_127 : pw 127 = 1 := by rw [pw_pos (by decide)]; norm_num

theorem pw_mono {a b : ℕ} (h : a ≤ b) : pw a ≤ pw b := by
  unfold pw
  split_ifs with ha hb
  · exact le_rfl
  · positivity
  · omega
  · exact zpow_le_zpow_right₀ (by norm_num) (by omega)

/-- A word shifted left by 23 on the vector unit. -/
theorem shl23 (x : BitVec 32) : IntOp.shli .vector x 23#32 = x <<< 23 := by
  simp [IntOp.shli, IntOp.cornerWord]

/-- The float whose exponent field is `e` and whose other bits are zero. -/
theorem ofBits_field {e : ℕ} (h : e < 255) :
    Ideal.ofBits .f32 (IntOp.shli .vector (BitVec.ofNat 32 e) 23#32) = (pw e : EReal) := by
  rw [shl23]
  have key : ∀ e : Fin 255, ((BitVec.ofNat 32 e.val <<< 23).extractLsb' 31 1 == 1#1) = false
      ∧ ((BitVec.ofNat 32 e.val <<< 23).extractLsb' 23 8).toNat = e.val
      ∧ ((BitVec.ofNat 32 e.val <<< 23).extractLsb' 0 23).toNat = 0 := by decide +kernel
  obtain ⟨h1, h2, h3⟩ := key ⟨e, h⟩
  dsimp only at h1 h2 h3
  show Ideal.ieee 8 23 (BitVec.ofNat 32 e <<< 23) = _
  unfold Ideal.ieee
  dsimp only
  rw [h1, h2, h3, if_neg (by omega)]
  by_cases he : e = 0
  · rw [if_pos he]; simp [pw, he]
  · rw [if_neg he, pw_pos he]
    refine congrArg (fun r : ℝ => (r : EReal)) ?_
    simp only [Bool.false_eq_true, if_false, one_mul]
    rw [show (((2 ^ 23 + 0 : ℕ) : ℕ) : ℝ) = (2 : ℝ) ^ (23 : ℤ) by norm_num, ← zpow_add₀ (by norm_num)]
    refine congrArg (fun n : ℤ => (2 : ℝ) ^ n) ?_
    norm_num

/-- One step of the search: raise the field by `step` if the number is at least what the raised field denotes. -/
def pick (x : EReal) (step e : BitVec 32) : BitVec 32 :=
  Scalar.select (Ideal.cmp .oge x (Ideal.ofBits .f32 (IntOp.shli .vector (IntOp.addi e step) 23#32))) (IntOp.addi e step) e

/-- The search over the eight bits of the field. -/
def search (x : EReal) : BitVec 32 :=
  pick x 1#32 (pick x 2#32 (pick x 4#32 (pick x 8#32 (pick x 16#32 (pick x 32#32 (pick x 64#32 (pick x 128#32 0#32)))))))

theorem addi_ofNat (a b : ℕ) : IntOp.addi (BitVec.ofNat 32 a) (BitVec.ofNat 32 b) = BitVec.ofNat 32 (a + b) := by
  show BitVec.ofNat 32 a + BitVec.ofNat 32 b = _
  rw [BitVec.ofNat_add]

/-- A step of the search on a number below what `e + step` fields denote stays where it is, else it moves up. -/
theorem pick_eq (x : ℝ) {e step : ℕ} (h : e + step < 255) :
    pick x (BitVec.ofNat 32 step) (BitVec.ofNat 32 e) = BitVec.ofNat 32 (if pw (e + step) ≤ x then e + step else e) := by
  unfold pick
  rw [addi_ofNat, ofBits_field h]
  by_cases hx : pw (e + step) ≤ x
  · rw [if_pos hx]
    have : Ideal.cmp .oge (x : EReal) (pw (e + step) : EReal) = 1#1 := by
      simp [Ideal.cmp, hx]
    rw [this]; rfl
  · rw [if_neg hx]
    have : Ideal.cmp .oge (x : EReal) (pw (e + step) : EReal) = 0#1 := by
      simp [Ideal.cmp, hx]
    rw [this]; rfl

/-- The search narrows the field: one step halves the range. -/
theorem pick_spec {x : ℝ} {e step : ℕ} (he : e + 2 * step ≤ 128) (h1 : pw e ≤ x) (h2 : x < pw (e + 2 * step)) :
    ∃ e' : ℕ, pick x (BitVec.ofNat 32 step) (BitVec.ofNat 32 e) = BitVec.ofNat 32 e' ∧ e' + step ≤ 128 ∧ pw e' ≤ x ∧ x < pw (e' + step) := by
  refine ⟨_, pick_eq x (by omega), ?_⟩
  split_ifs with h
  · exact ⟨by omega, h, by rwa [show e + step + step = e + 2 * step by omega]⟩
  · exact ⟨by omega, h1, lt_of_not_ge h⟩

/-- The search finds the exponent field of a number below one. -/
theorem search_spec {x : ℝ} (h0 : 0 ≤ x) (h1 : x < 1) :
    ∃ e : ℕ, search x = BitVec.ofNat 32 e ∧ e < 127 ∧ pw e ≤ x ∧ x < pw (e + 1) := by
  have hp0 : pw 0 = 0 := if_pos rfl
  have s128 : pick x 128#32 0#32 = BitVec.ofNat 32 0 := by
    have := pick_eq x (e := 0) (step := 128) (by decide)
    rw [if_neg (not_le.mpr (lt_of_lt_of_le (h1.trans_eq pw_127.symm) (pw_mono (by decide))))] at this
    exact this
  unfold search
  rw [s128]
  have i0 : pw 0 ≤ x := hp0.trans_le h0
  have i1 : x < pw (0 + 2 * 64) := lt_of_lt_of_le (h1.trans_eq pw_127.symm) (pw_mono (by decide))
  obtain ⟨e6, q6, b6, l6, u6⟩ := pick_spec (step := 64) (by decide) i0 i1
  obtain ⟨e5, q5, b5, l5, u5⟩ := pick_spec (step := 32) (e := e6) (by omega) l6 u6
  obtain ⟨e4, q4, b4, l4, u4⟩ := pick_spec (step := 16) (e := e5) (by omega) l5 u5
  obtain ⟨e3, q3, b3, l3, u3⟩ := pick_spec (step := 8) (e := e4) (by omega) l4 u4
  obtain ⟨e2, q2, b2, l2, u2⟩ := pick_spec (step := 4) (e := e3) (by omega) l3 u3
  obtain ⟨e1, q1, b1, l1, u1⟩ := pick_spec (step := 2) (e := e2) (by omega) l2 u2
  obtain ⟨e0, q0, b0, l0, u0⟩ := pick_spec (step := 1) (e := e1) (by omega) l1 u1
  refine ⟨e0, ?_, ?_, l0, u0⟩
  · rw [q6, q5, q4, q3, q2, q1, q0]
  · by_contra hc
    exact absurd (lt_of_le_of_lt ((pw_127.symm.trans_le (pw_mono (by omega : 127 ≤ e0))).trans l0) h1) (lt_irrefl _)

/-- The word of the scale: the field after the one found, or that of one if the field found is zero. -/
def scaleWord (x : EReal) : BitVec 32 :=
  Scalar.select (IntOp.cmpi .eq (IntOp.shli .vector (search x) 23#32) 0#32) 1065353216#32
    (IntOp.addi (IntOp.shli .vector (search x) 23#32) 8388608#32)

/-- The scale of a weight: a power of two, its largest code below the largest of the format. -/
def scaleQ (a : EReal) : EReal := Ideal.ofBits .f32 (scaleWord (a * ((1 / 448 : ℝ) : EReal)))

/-- The weight over its scale, as the kernel computes it. -/
def gainQ (a : EReal) : EReal :=
  min (a * Ideal.ofBits .f32 (IntOp.subi 2130706432#32 (scaleWord (a * ((1 / 448 : ℝ) : EReal))))) (Ideal.ofBits .f32 1138753536#32)

theorem ofBits_448 : Ideal.ofBits .f32 1138753536#32 = ((448 : ℝ) : EReal) := by
  show Ideal.ieee 8 23 (1138753536#32) = _
  unfold Ideal.ieee
  dsimp only
  rw [show ((1138753536#32).extractLsb' (8 + 23) 1 == 1#1) = false by decide,
    show ((1138753536#32).extractLsb' 23 8).toNat = 135 by decide, show ((1138753536#32).extractLsb' 0 23).toNat = 6291456 by decide,
    if_neg (by decide), if_neg (by decide)]
  refine congrArg (fun r : ℝ => (r : EReal)) ?_
  norm_num [zpow_neg]

/-- The two factors the kernel splits a weight into multiply back to the weight. -/
theorem gain_scale {a : ℝ} (h0 : 0 ≤ a) (h1 : a ≤ 1) (p : ℝ) : (p : EReal) * gainQ a * scaleQ a = ((p * a : ℝ) : EReal) := by
  have hx : ((a : EReal) * ((1 / 448 : ℝ) : EReal)) = ((a * (1 / 448) : ℝ) : EReal) := (EReal.coe_mul _ _).symm
  have hx0 : 0 ≤ a * (1 / 448) := by positivity
  have hx1 : a * (1 / 448) < 1 := by linarith
  obtain ⟨e, he, hlt, hl, hu⟩ := search_spec hx0 hx1
  have kw : ∀ e : Fin 127, Scalar.select (IntOp.cmpi .eq (IntOp.shli .vector (BitVec.ofNat 32 e.val) 23#32) 0#32) 1065353216#32
      (IntOp.addi (IntOp.shli .vector (BitVec.ofNat 32 e.val) 23#32) 8388608#32)
      = IntOp.shli .vector (BitVec.ofNat 32 (if e.val = 0 then 127 else e.val + 1)) 23#32 := by decide +kernel
  have ki : ∀ e : Fin 128, IntOp.subi 2130706432#32 (IntOp.shli .vector (BitVec.ofNat 32 e.val) 23#32)
      = IntOp.shli .vector (BitVec.ofNat 32 (254 - e.val)) 23#32 := by decide +kernel
  have hw : scaleWord ((a * (1 / 448) : ℝ) : EReal) = IntOp.shli .vector (BitVec.ofNat 32 (if e = 0 then 127 else e + 1)) 23#32 := by
    unfold scaleWord
    rw [he]
    exact kw ⟨e, hlt⟩
  set b : ℕ := if e = 0 then 127 else e + 1 with hb
  have hb1 : 1 ≤ b := by rw [hb]; split_ifs <;> omega
  have hb2 : b < 128 := by rw [hb]; split_ifs <;> omega
  have hs : scaleQ a = ((2 : ℝ) ^ ((b : ℤ) - 127) : ℝ) := by
    unfold scaleQ
    rw [hx, hw, ofBits_field (by omega), pw_pos (by omega)]
  have hg : gainQ a = ((a * (2 : ℝ) ^ (127 - (b : ℤ)) : ℝ) : EReal) := by
    unfold gainQ
    rw [hx, hw]
    have := ki ⟨b, hb2⟩
    dsimp only at this
    rw [this, ofBits_field (by omega), pw_pos (by omega), ofBits_448, ← EReal.coe_mul]
    have e1 : ((254 - b : ℕ) : ℤ) - 127 = 127 - (b : ℤ) := by omega
    rw [e1]
    refine min_eq_left (EReal.coe_le_coe_iff.mpr ?_)
    have hpos : (0 : ℝ) < (2 : ℝ) ^ (127 - (b : ℤ)) := by positivity
    by_cases h : e = 0
    · have : b = 127 := by rw [hb, if_pos h]
      rw [this]; norm_num; linarith
    · have hbe : b = e + 1 := by rw [hb, if_neg h]
      have hu' : a * (1 / 448) < (2 : ℝ) ^ ((b : ℤ) - 127) := by
        rw [pw_pos (by omega)] at hu
        rw [hbe]; exact hu
      have hm : (2 : ℝ) ^ ((b : ℤ) - 127) * (2 : ℝ) ^ (127 - (b : ℤ)) = 1 := by
        rw [← zpow_add₀ (by norm_num)]; norm_num
      nlinarith
  rw [hs, hg, ← EReal.coe_mul, ← EReal.coe_mul]
  refine congrArg (fun r : ℝ => (r : EReal)) ?_
  have hm : (2 : ℝ) ^ (127 - (b : ℤ)) * (2 : ℝ) ^ ((b : ℤ) - 127) = 1 := by
    rw [← zpow_add₀ (by norm_num)]; norm_num
  rw [mul_assoc, mul_assoc, hm, mul_one]

/-- What a scale byte denotes: two to its excess over the bias. -/
def dec (b : BitVec 8) : EReal := (((2 : ℝ) ^ ((b.toNat : ℤ) - 127) : ℝ) : EReal)

/-- A byte read as a number, and the number rounded to a word: the byte. -/
theorem fptosi_nat {n : ℕ} (h : n < 256) : Ideal.fptosi 32 (((n : ℝ)) : EReal) = BitVec.ofNat 32 n := by
  unfold Ideal.fptosi
  have : Ideal.toIntClamped (-(2 ^ (32 - 1) : ℕ)) ((2 ^ (32 - 1) : ℕ) - 1) ((n : ℝ) : EReal) = n := by
    show max _ (min _ (if (0 : ℝ) ≤ (n : ℝ) then ⌊(n : ℝ)⌋ else ⌈(n : ℝ)⌉)) = (n : ℤ)
    rw [if_pos (Nat.cast_nonneg n), Int.floor_natCast]
    norm_num
    omega
  rw [this]
  rfl

theorem toInt_byte (b : BitVec 8) : (BitVec.setWidth 32 b).toInt = b.toNat := by
  have h := b.isLt
  rw [BitVec.toInt_setWidth]
  rw [Int.bmod_eq_of_le] <;> omega

/-- The kernel's decoding of a scale byte that is neither zero nor all ones. -/
theorem dec_kernel {b : BitVec 8} (h0 : 0 < b.toNat) (h1 : b.toNat < 255) :
    Ideal.ofBits .f32 (IntOp.shli .vector (Ideal.fptosi 32 (((BitVec.setWidth 32 b).toInt : ℝ) : EReal)) 23#32) = dec b := by
  rw [toInt_byte]
  have := fptosi_nat (n := b.toNat) (by omega)
  rw [show (((b.toNat : ℤ) : ℝ) : EReal) = ((b.toNat : ℝ) : EReal) by push_cast; rfl, this, ofBits_field h1, pw_pos (by omega)]
  rfl

/-- The reference's decoding of a scale byte. -/
theorem dec_reference (b : BitVec 8) :
    Ideal.exp2 (((IntOp.subi (BitVec.setWidth 32 b) 127#32).toInt : ℝ) : EReal) = dec b := by
  have h : ∀ n : Fin 256, (IntOp.subi (BitVec.setWidth 32 (BitVec.ofNat 8 n.val)) 127#32).toInt = (n.val : ℤ) - 127 := by decide +kernel
  have := h ⟨b.toNat, b.isLt⟩
  dsimp only at this
  rw [BitVec.ofNat_toNat, BitVec.setWidth_eq] at this
  rw [this]
  show ((Real.rpow 2 _ : ℝ) : EReal) = _
  unfold dec
  exact congrArg (fun r : ℝ => (r : EReal)) (Real.rpow_intCast 2 _)

/-! ## Index arithmetic in words -/

/-- The divisor of a remainder: one in place of zero. -/
def divisor (d : BitVec 32) : BitVec 32 := Scalar.select (Scalar.cmpi .eq d 0#32) 1#32 d

/-- The remainder with the divisor's sign, from the machine's truncating one. -/
def modW (d x : BitVec 32) : BitVec 32 :=
  Scalar.select
    (IntOp.andi (IntOp.xori (IntOp.cmpi .slt (IntOp.remsi .vector x (divisor d)) 0#32) (Scalar.cmpi .slt (divisor d) 0#32))
      (IntOp.cmpi .ne (IntOp.remsi .vector x (divisor d)) 0#32))
    (IntOp.addi (IntOp.remsi .vector x (divisor d)) (divisor d)) (IntOp.remsi .vector x (divisor d))

/-- The quotient rounded down, from the machine's truncating one. -/
def divW (d x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt d 0#32)) (Scalar.extui (Scalar.cmpi .slt d 0#32))))
      (IntOp.cmpi .ne (IntOp.remsi .vector x d) 0#32))
    (IntOp.subi (IntOp.divsi .vector x d) 1#32) (IntOp.divsi .vector x d)

/-- The key, within its tile, that row `r` of the kernel's transposed scores stands for. -/
def keyOf (r : ℕ) : ℕ := r % 8 * 32 + r / 8

theorem keyOf_lt {r : ℕ} (h : r < 256) : keyOf r < 256 := by unfold keyOf; omega

/-- The same in words. -/
def keyW (x : BitVec 32) : BitVec 32 := IntOp.addi (IntOp.muli (modW 8#32 x) 32#32) (divW 8#32 x)

theorem keyW_eq : ∀ r : Fin 256, keyW (BitVec.ofNat 32 r.val) = BitVec.ofNat 32 (keyOf r.val) := by decide +kernel

theorem divW32_eq : ∀ r : Fin 128, divW 32#32 (BitVec.ofNat 32 r.val) = BitVec.ofNat 32 (r.val / 32) := by decide +kernel

theorem modW8_eq : ∀ r : Fin 256, modW 8#32 (BitVec.ofNat 32 r.val) = BitVec.ofNat 32 (r.val % 8) := by decide +kernel

/-- The comparison of two small numbers, as a bit. -/
theorem cmpi_eq_ofNat {a b : ℕ} (ha : a < 256) (hb : b < 256) :
    IntOp.cmpi .eq (BitVec.ofNat 32 a) (BitVec.ofNat 32 b) = if a = b then 1#1 else 0#1 := by
  have h : (BitVec.ofNat 32 a == BitVec.ofNat 32 b) = decide (a = b) := by
    rw [Bool.eq_iff_iff, beq_iff_eq, decide_eq_true_iff]
    constructor
    · intro e
      have := congrArg BitVec.toNat e
      simp only [BitVec.toNat_ofNat] at this
      omega
    · rintro rfl; rfl
  show BitVec.ofBool (BitVec.ofNat 32 a == BitVec.ofNat 32 b) = _
  rw [h]
  by_cases e : a = b <;> simp [e]

theorem toInt_small {a : ℕ} (ha : a < 256) : (BitVec.ofNat 32 a).toInt = a := by
  rw [BitVec.toInt_eq_toNat_cond, BitVec.toNat_ofNat, Nat.mod_eq_of_lt (by omega), if_pos (by omega)]

theorem cmpi_sle_ofNat {a b : ℕ} (ha : a < 256) (hb : b < 256) :
    IntOp.cmpi .sle (BitVec.ofNat 32 a) (BitVec.ofNat 32 b) = if a ≤ b then 1#1 else 0#1 := by
  have h : (BitVec.ofNat 32 a).sle (BitVec.ofNat 32 b) = decide (a ≤ b) := by
    rw [Bool.eq_iff_iff, BitVec.sle_iff_toInt_le, decide_eq_true_iff, toInt_small ha, toInt_small hb]
    omega
  show BitVec.ofBool ((BitVec.ofNat 32 a).sle (BitVec.ofNat 32 b)) = _
  rw [h]
  by_cases e : a ≤ b <;> simp [e]

/-- A bit as a number. -/
theorem bit_eq (p : Prop) [Decidable p] :
    (((BitVec.setWidth 32 (if p then 1#1 else 0#1)).toInt : ℝ) : EReal) = if p then 1 else 0 := by
  by_cases h : p <;> simp [h]

/-- A sum against an indicator picks one term. -/
theorem sum_pick {n k : ℕ} (hk : k < n) (f : Fin n → EReal) : ∑ x : Fin n, f x * (if k = x.val then 1 else 0) = f ⟨k, hk⟩ := by
  rw [Finset.sum_eq_single (⟨k, hk⟩ : Fin n)]
  · rw [if_pos rfl, mul_one]
  · intro b _ hb
    rw [if_neg (fun e => hb (Fin.ext e.symm)), mul_zero]
  · intro h; exact absurd (Finset.mem_univ _) h

theorem sum_pick' {n k : ℕ} (hk : k < n) (f : Fin n → EReal) : ∑ x : Fin n, (if k = x.val then 1 else 0) * f x = f ⟨k, hk⟩ := by
  rw [← sum_pick hk f]
  exact Finset.sum_congr rfl fun x _ => mul_comm _ _

end Cert.Words

end
-- ==== Proof.Tiles.lean ====
/- Reading back a buffer that a counted loop fills, one tile at each trip: the tile of a trip that has run holds that trip's
   payload, a tile away from all the trips holds what it held before. Then the offsets and the trip counts of the idealized
   kernel's loops in closed form. -/
module

public import proofs.«01_k».proof.Proof.KernelLoops
public import Idealize.ShloMosaic.Lib.WritesUnit

@[expose] public section

set_option maxRecDepth 16384

noncomputable section

namespace Cert.KernelIdeal.Value

open Cert.KernelIdeal Cert.KernelIdeal.Gen
open Idealize.ShloMosaic Idealize.ShloMosaic.TcCoe

section Generic

variable {sig : RefSig} {κ : Kind} {sp : Space} {s : Shape} {e : EltTy} {Val : EltTy → Type}

/-- A load of the rectangle written last reads what was written. -/
theorem readAt_hit (v : View sig κ sp s e) (f : v.ty.Contents Val) {off off' size : Fin s.rank → ℕ}
    (inb : ∀ a, off a + size a ≤ s.size a) (inb' : ∀ a, off' a + size a ≤ s.size a)
    (w : (Rect.unit off size inb).shape.Idx → Val e) (L : List (View.Piece Val s e)) (h : off' = off) :
    v.readAt Val (Rect.unit off' size inb').toLoadRect (v.writes Val f ((⟨Rect.unit off size inb, w⟩ : View.Piece Val s e) :: L)) = w := by
  subst h
  funext x
  exact View.read_writes_cons_unit_of_mem v f inb w L _ x rfl fun a => by
    show off' a + 1 * (x a).val = _
    rw [Nat.one_mul]

/-- A load of a rectangle apart, on one axis, from the one written last reads what was there before. -/
theorem readAt_miss (v : View sig κ sp s e) (f : v.ty.Contents Val) {off off' size size' : Fin s.rank → ℕ}
    (inb : ∀ a, off a + size a ≤ s.size a) (inb' : ∀ a, off' a + size' a ≤ s.size a)
    (w : (Rect.unit off size inb).shape.Idx → Val e) (L : List (View.Piece Val s e)) (a : Fin s.rank)
    (h : off' a + size' a ≤ off a ∨ off a + size a ≤ off' a) :
    v.readAt Val (Rect.unit off' size' inb').toLoadRect (v.writes Val f ((⟨Rect.unit off size inb, w⟩ : View.Piece Val s e) :: L))
      = v.readAt Val (Rect.unit off' size' inb').toLoadRect (v.writes Val f L) := by
  funext x
  refine View.read_writes_cons_unit_of_not_mem v f inb w L _ rfl a ?_
  have hx : (x a).val < size' a := (x a).isLt
  show off' a + 1 * (x a).val < off a ∨ off a + size a ≤ off' a + 1 * (x a).val
  omega

/-- A loop that writes one tile at each trip leaves a tile apart from those of all its trips as it was. -/
theorem readAt_iter_miss (v : View sig κ sp s e) {N : ℕ} {off : Fin N → Fin s.rank → ℕ} {off' size size' : Fin s.rank → ℕ}
    (inb : ∀ k a, off k a + size a ≤ s.size a) (inb' : ∀ a, off' a + size' a ≤ s.size a)
    (p : (k : Fin N) → (Rect.unit (off k) size (inb k)).shape.Idx → Val e) (G : v.ty.Contents Val) (a : Fin s.rank) (n : ℕ)
    (h : ∀ k : Fin N, k.val < n → off' a + size' a ≤ off k a ∨ off k a + size a ≤ off' a) :
    v.readAt Val (Rect.unit off' size' inb').toLoadRect
        (iter (fun (k : Fin N) (g : v.ty.Contents Val) => v.writes Val g [⟨Rect.unit (off k) size (inb k), p k⟩]) G n)
      = v.readAt Val (Rect.unit off' size' inb').toLoadRect G := by
  induction n with
  | zero => rfl
  | succ n ih =>
    by_cases hn : n < N
    · rw [iter_succ _ G ⟨n, hn⟩, readAt_miss v _ (inb ⟨n, hn⟩) inb' _ _ a (h ⟨n, hn⟩ (Nat.lt_succ_self n)), View.writes_nil]
      exact ih fun k hk => h k (Nat.lt_succ_of_lt hk)
    · rw [show iter (fun (k : Fin N) (g : v.ty.Contents Val) => v.writes Val g [⟨Rect.unit (off k) size (inb k), p k⟩]) G (n + 1)
        = iter (fun (k : Fin N) (g : v.ty.Contents Val) => v.writes Val g [⟨Rect.unit (off k) size (inb k), p k⟩]) G n from dif_neg hn]
      exact ih fun k hk => h k (Nat.lt_succ_of_lt hk)

/-- A loop that writes at each trip a tile apart from those of the others leaves each trip's tile holding its payload. -/
theorem readAt_iter_hit (v : View sig κ sp s e) {N : ℕ} {off : Fin N → Fin s.rank → ℕ} {off' size : Fin s.rank → ℕ}
    (inb : ∀ k a, off k a + size a ≤ s.size a) (inb' : ∀ a, off' a + size a ≤ s.size a)
    (p : (k : Fin N) → (Rect.unit (off k) size (inb k)).shape.Idx → Val e) (G : v.ty.Contents Val) (a : Fin s.rank) (n : ℕ)
    (hsep : ∀ j k : Fin N, j.val < k.val → off j a + size a ≤ off k a) (k : Fin N) (hk : k.val < n) (h : off' = off k) :
    v.readAt Val (Rect.unit off' size inb').toLoadRect
        (iter (fun (k : Fin N) (g : v.ty.Contents Val) => v.writes Val g [⟨Rect.unit (off k) size (inb k), p k⟩]) G n)
      = p k := by
  induction n with
  | zero => exact absurd hk (Nat.not_lt_zero _)
  | succ n ih =>
    by_cases hn : n < N
    · rw [iter_succ _ G ⟨n, hn⟩]
      by_cases hkn : k.val = n
      · obtain rfl : k = ⟨n, hn⟩ := Fin.ext hkn
        exact readAt_hit v _ (inb _) inb' _ _ h
      · have hlt : k.val < n := by omega
        rw [readAt_miss v _ (inb ⟨n, hn⟩) inb' _ _ a (Or.inl (h ▸ hsep k ⟨n, hn⟩ hlt)), View.writes_nil]
        exact ih hlt
    · rw [show iter (fun (k : Fin N) (g : v.ty.Contents Val) => v.writes Val g [⟨Rect.unit (off k) size (inb k), p k⟩]) G (n + 1)
        = iter (fun (k : Fin N) (g : v.ty.Contents Val) => v.writes Val g [⟨Rect.unit (off k) size (inb k), p k⟩]) G n from dif_neg hn]
      exact ih (by have := k.isLt; omega)

end Generic

/-- A fold over the naturals below `n`, from the first. -/
def accum {α : Type*} (f : ℕ → α → α) (a : α) : ℕ → α
  | 0 => a
  | k + 1 => f k (accum f a k)

/-- A loop whose trip `k` does what `f k` does is the fold. -/
theorem iter_eq_accum {α : Type*} {N : ℕ} {g : Fin N → α → α} {a b : α} (f : ℕ → α → α) (hab : a = b) (n : ℕ) (hn : n ≤ N)
    (h : ∀ (k : Fin N) x, k.val < n → g k x = f k.val x) : iter g a n = accum f b n := by
  subst hab
  induction n with
  | zero => rfl
  | succ n ih =>
    rw [iter_succ g a ⟨n, hn⟩, ih (Nat.le_of_succ_le hn) fun k x hk => h k x (Nat.lt_succ_of_lt hk)]
    exact h ⟨n, hn⟩ _ (Nat.lt_succ_self n)

/-- A whole loop of `n` trips of which trip `k` does what `f k` does is the fold. -/
theorem iter_all {α : Type*} {N n : ℕ} {g : Fin N → α → α} {a : α} (f : ℕ → α → α) (hN : N = n)
    (h : ∀ (k : Fin N) x, g k x = f k.val x) : iter g a N = accum f a n := by
  subst hN
  exact iter_eq_accum f rfl N le_rfl fun k x _ => h k x

/-! ## Offsets and trip counts -/

theorem off_t1 (k : Fin k0_t1_loop.trips) : k0_off1 k = ![0, 0, 256 * k.val, 0] ∧ k0_off2 k = ![0, 0, 256 * k.val, 0]
    ∧ k0_off3 k = ![256 * k.val, 0] ∧ k0_off4 k = ![0, 0, 0, 256 * k.val] ∧ k0_off5 k = ![0, 0, k.val, 0, 0] ∧ k0_off6 k = ![k.val, 0, 0] := by
  have hk : k.val < 48 := Nat.lt_of_lt_of_le k.isLt k0_t1_abs.2.1
  have h1 : Affine.IsInt _ (k.val : Int) := Affine.iv (Affine.ofNat 0 (by omega) : Affine.IsInt 0#32 0) (Affine.ofNat 1 (by omega) : Affine.IsInt 1#32 1) k.val (by omega)
  have h2 : Affine.IsInt _ (256 * (k.val : Int)) := Affine.muli h1 (Affine.ofNat 256 (by omega) : Affine.IsInt 256#32 256) (by omega)
  have e1 := Affine.nat_eq (Affine.indexCast h1) k.val rfl
  have e2 := Affine.nat_eq (Affine.indexCast h2) (256 * k.val) (by omega)
  refine ⟨?_, ?_, ?_, ?_, ?_, ?_⟩
  · exact congrArg (fun n => ![0, 0, n, 0]) e2
  · exact congrArg (fun n => ![0, 0, n, 0]) e2
  · exact congrArg (fun n => ![n, 0]) e2
  · exact congrArg (fun n => ![0, 0, 0, n]) e2
  · exact congrArg (fun n => ![0, 0, n, 0, 0]) e1
  · exact congrArg (fun n => ![n, 0, 0]) e1

theorem off_t2 (i : grid0.Coords) (k : Fin (k0_t2_loop i).trips) : k0_off7 i k = ![256 * k.val, 0]
    ∧ k0_off8 i k = ![k.val, 0, 0, 0] ∧ k0_off9 i k = ![k.val, 0, 0] := by
  have hk : k.val < 47 := Nat.lt_of_lt_of_le k.isLt (k0_t2_abs i).2.1
  have h1 : Affine.IsInt _ (k.val : Int) := Affine.iv (Affine.ofNat 0 (by omega) : Affine.IsInt 0#32 0) (Affine.ofNat 1 (by omega) : Affine.IsInt 1#32 1) k.val (by omega)
  have h2 : Affine.IsInt _ (256 * (k.val : Int)) := Affine.muli h1 (Affine.ofNat 256 (by omega) : Affine.IsInt 256#32 256) (by omega)
  have e1 := Affine.nat_eq (Affine.indexCast h1) k.val rfl
  have e2 := Affine.nat_eq (Affine.indexCast h2) (256 * k.val) (by omega)
  exact ⟨congrArg (fun n => ![n, 0]) e2, congrArg (fun n => ![n, 0, 0, 0]) e1, congrArg (fun n => ![n, 0, 0]) e1⟩

theorem off_diag (i : grid0.Coords) : k0_off13 i = ![256 * (i 3).val, 0]
    ∧ k0_off14 i = ![(i 3).val, 0, 0, 0] ∧ k0_off15 i = ![(i 3).val, 0, 0] := by
  have r_i3 : (i 3).val < 48 := (i 3).isLt
  have h1 : Affine.IsInt (BitVec.ofNat 32 (i 3).val) (((i 3).val : Int)) := Affine.ofNat _ (by omega)
  have h2 : Affine.IsInt _ (256 * ((i 3).val : Int)) := Affine.muli h1 (Affine.ofNat 256 (by omega) : Affine.IsInt 256#32 256) (by omega)
  have e1 := Affine.nat_eq (Affine.indexCast h1) (i 3).val rfl
  have e2 := Affine.nat_eq (Affine.indexCast h2) (256 * (i 3).val) (by omega)
  exact ⟨congrArg (fun n => ![n, 0]) e2, congrArg (fun n => ![n, 0, 0, 0]) e1, congrArg (fun n => ![n, 0, 0]) e1⟩

theorem off_t4 (i : grid0.Coords) (k : Fin (k0_t4_loop i).trips) : k0_off16 i k = ![k.val, 0, 0] := by
  have hk : k.val < 48 := Nat.lt_of_lt_of_le k.isLt (k0_t4_abs i).2.1
  have h1 : Affine.IsInt _ (k.val : Int) := Affine.iv (Affine.ofNat 0 (by omega) : Affine.IsInt 0#32 0) (Affine.ofNat 1 (by omega) : Affine.IsInt 1#32 1) k.val (by omega)
  have e1 := Affine.nat_eq (Affine.indexCast h1) k.val rfl
  exact congrArg (fun n => ![n, 0, 0]) e1

theorem off_t6 (i : grid0.Coords) (k : Fin (k0_t6_loop i).trips) : k0_off18 i k = ![k.val, 0, 0] := by
  have hk : k.val < 48 := Nat.lt_of_lt_of_le k.isLt (k0_t6_abs i).2.1
  have h1 : Affine.IsInt _ (k.val : Int) := Affine.iv (Affine.ofNat 0 (by omega) : Affine.IsInt 0#32 0) (Affine.ofNat 1 (by omega) : Affine.IsInt 1#32 1) k.val (by omega)
  have e1 := Affine.nat_eq (Affine.indexCast h1) k.val rfl
  exact congrArg (fun n => ![n, 0, 0]) e1

theorem off_t8 (i : grid0.Coords) (k : Fin (k0_t8_loop i).trips) : k0_off20 i k = ![k.val, 0, 0] ∧ k0_off21 i k = ![k.val, 0, 0] := by
  have hk : k.val < 48 := Nat.lt_of_lt_of_le k.isLt (k0_t8_abs i).2.1
  have h1 : Affine.IsInt _ (k.val : Int) := Affine.iv (Affine.ofNat 0 (by omega) : Affine.IsInt 0#32 0) (Affine.ofNat 1 (by omega) : Affine.IsInt 1#32 1) k.val (by omega)
  have e1 := Affine.nat_eq (Affine.indexCast h1) k.val rfl
  exact ⟨congrArg (fun n => ![n, 0, 0]) e1, congrArg (fun n => ![n, 0, 0]) e1⟩

theorem off_t10 (i : grid0.Coords) (k : Fin (k0_t10_loop i).trips) : k0_off24 i k = ![k.val, 0, 0, 0]
    ∧ k0_off25 i k = ![k.val, 0, 0] ∧ k0_off26 i k = ![k.val, 0, 0] ∧ k0_off27 i k = ![k.val, 0, 0] := by
  have hk : k.val < 48 := Nat.lt_of_lt_of_le k.isLt (k0_t10_abs i).2.1
  have h1 : Affine.IsInt _ (k.val : Int) := Affine.iv (Affine.ofNat 0 (by omega) : Affine.IsInt 0#32 0) (Affine.ofNat 1 (by omega) : Affine.IsInt 1#32 1) k.val (by omega)
  have e1 := Affine.nat_eq (Affine.indexCast h1) k.val rfl
  exact ⟨congrArg (fun n => ![n, 0, 0, 0]) e1, congrArg (fun n => ![n, 0, 0]) e1, congrArg (fun n => ![n, 0, 0]) e1, congrArg (fun n => ![n, 0, 0]) e1⟩

theorem trips_t1 : k0_t1_loop.trips = 48 := by decide

theorem trips_t2 (i : grid0.Coords) : (k0_t2_loop i).trips = (i 3).val := by
  have r_i3 : (i 3).val < 48 := (i 3).isLt
  have h_arg3 : Affine.IsInt (BitVec.ofNat 32 (i 3).val) (((i 3).val : Int)) := Affine.ofNat _ (by omega)
  have h0 : Affine.IsInt 0#32 (0) := Affine.ofNat _ (by omega)
  have h1 : Affine.IsInt 1#32 (1) := Affine.ofNat _ (by omega)
  have h2 : Affine.IsInt _ ((i 3).val : Int) := Affine.subi h_arg3 h0 (by omega)
  have h3 : Affine.IsInt _ ((i 3).val : Int) := Affine.divsi h2 h1 (by omega)
  have h4 : Affine.IsInt _ ((i 3).val : Int) := Affine.muli h3 h1 (by omega)
  have h5 : Affine.IsInt _ ((i 3).val : Int) := Affine.addi h0 h4 (by omega)
  exact Affine.trips_eq h0 h5 h1 _ (by omega)

theorem trips_tail (i : grid0.Coords) : (k0_t4_loop i).trips = (i 3).val + 1 ∧ (k0_t6_loop i).trips = (i 3).val + 1
    ∧ (k0_t8_loop i).trips = (i 3).val + 1 ∧ (k0_t10_loop i).trips = (i 3).val + 1 := by
  have r_i3 : (i 3).val < 48 := (i 3).isLt
  have h_arg3 : Affine.IsInt (BitVec.ofNat 32 (i 3).val) (((i 3).val : Int)) := Affine.ofNat _ (by omega)
  have h0 : Affine.IsInt 0#32 (0) := Affine.ofNat _ (by omega)
  have h1 : Affine.IsInt 1#32 (1) := Affine.ofNat _ (by omega)
  have h2' : Affine.IsInt _ ((i 3).val + 1 : Int) := Affine.addi h_arg3 h1 (by omega)
  have h2 : Affine.IsInt _ ((i 3).val + 1 : Int) := Affine.subi h2' h0 (by omega)
  have h3 : Affine.IsInt _ ((i 3).val + 1 : Int) := Affine.divsi h2 h1 (by omega)
  have h4 : Affine.IsInt _ ((i 3).val + 1 : Int) := Affine.muli h3 h1 (by omega)
  have h5 : Affine.IsInt _ ((i 3).val + 1 : Int) := Affine.addi h0 h4 (by omega)
  have h6 := Affine.trips_eq h0 h5 h1 ((i 3).val + 1) (by omega)
  exact ⟨h6, h6, h6, h6⟩

/-- Trip `k` of the loop that turns weights into gains reads its own slab as the loop found it: the earlier trips wrote
    other slabs. -/
theorem readAt_gains_late {F : FTy → Type} [FloatOps F] [Named F] (i : grid0.Coords)
    (arg16 : Memref sig .tc .vmem S48x8x256 .f32) (v149 : FVec F S8x256 .f32) (G : (Memref.view arg16).ty.Contents (Elt F)) (n k : ℕ)
    (hk : n ≤ k) {off : Fin 3 → ℕ} (inb : ∀ a, off a + S1x8x256.size a ≤ S48x8x256.size a) (h : off = ![k, 0, 0]) :
    (Memref.view arg16).readAt (Elt F) (Rect.unit (s := S48x8x256) off S1x8x256.size inb).toLoadRect
        ((Memref.view arg16).writes (Elt F) G (gains i arg16 v149 G n))
      = (Memref.view arg16).readAt (Elt F) (Rect.unit (s := S48x8x256) off S1x8x256.size inb).toLoadRect G := by
  induction n with
  | zero => rfl
  | succ n ih =>
    by_cases hn : n < (k0_t8_loop i).trips
    · rw [gains_succ i arg16 v149 G ⟨n, hn⟩]
      refine (readAt_miss _ _ _ _ _ _ (0 : Fin 3) (Or.inr ?_)).trans (ih (by omega))
      rw [(off_t8 i ⟨n, hn⟩).1, h]
      show n + 1 ≤ k
      omega
    · rw [show gains i arg16 v149 G (n + 1) = gains i arg16 v149 G n from dif_neg hn]
      exact ih (by omega)

/-- After `n` trips of that loop, slab `k < n` holds the gains of the weights it held. -/
theorem readAt_gains {F : FTy → Type} [FloatOps F] [Named F] (i : grid0.Coords)
    (arg16 : Memref sig .tc .vmem S48x8x256 .f32) (v149 : FVec F S8x256 .f32) (G : (Memref.view arg16).ty.Contents (Elt F)) (n k : ℕ)
    (hk : k < n) (hn : n ≤ (k0_t8_loop i).trips) {off : Fin 3 → ℕ} (inb : ∀ a, off a + S1x8x256.size a ≤ S48x8x256.size a) (h : off = ![k, 0, 0]) :
    (Memref.view arg16).readAt (Elt F) (Rect.unit (s := S48x8x256) off S1x8x256.size inb).toLoadRect
        ((Memref.view arg16).writes (Elt F) G (gains i arg16 v149 G n))
      = gainOf (k0_pay71 v149) ((Memref.view arg16).readAt (Elt F) (Rect.unit (s := S48x8x256) off S1x8x256.size inb).toLoadRect G) := by
  induction n with
  | zero => exact absurd hk (Nat.not_lt_zero _)
  | succ n ih =>
    rw [gains_succ i arg16 v149 G ⟨n, hn⟩]
    by_cases hkn : k = n
    · subst hkn
      have he : off = k0_off20 i ⟨k, hn⟩ := h.trans (off_t8 i ⟨k, hn⟩).1.symm
      subst he
      refine (readAt_hit _ _ _ _ _ _ rfl).trans ?_
      rw [readAt_gains_late i arg16 v149 G k k le_rfl _ h]
    · refine (readAt_miss _ _ _ _ _ _ (0 : Fin 3) (Or.inl ?_)).trans (ih (by omega) (by omega))
      rw [(off_t8 i ⟨n, hn⟩).1, h]
      show k + 1 ≤ n
      omega

end Cert.KernelIdeal.Value

end
-- ==== Proof.KernelBody.lean ====
/- What one grid point of the idealized kernel computes: the tiles of queries against the tiles of keys as a function of the
   blocks, and the body's triple that leaves it in the output block. The dequantised keys and values are kept in two
   scratch buffers, filled at the first point of a head and read at all its points. -/
module

public import proofs.«01_k».proof.Proof.Tiles
public import Idealize.ShloMosaic.Lib.Pipeline.Value

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One point's result as a function of its blocks -/

section Pure

variable (x0 : Vec F S1x1x256x128 .fp8e4m3) (x1 : Vec F S1x1x256x4 .i8) (kt : ℕ → Vec F S256x128 .bf16) (vt : ℕ → Vec F S1x128x256 .bf16) (qi : ℕ)

/-- The query tile dequantised and scaled. -/
def queries : FVec F S256x128 .bf16 := k0_pay38 (k0_pay36 x1) k0_pay37 (constant S256x128 .f32 0x00000000#32) x0

/-- The exponentials of key tile `n`, relative to the greatest score of their block; on the last tile, the diagonal one, keys after
    the query count nothing. -/
def probs (n : ℕ) : Vec F S1x32x8x256 .f32 :=
  if n < qi then k0_pay42 (k0_pay36 x1) k0_pay37 (constant S256x128 .f32 0x00000000#32) x0 (kt n)
  else k0_pay57 (queries x0 x1) (iota .tc S256x256 32 [0] iota_S256x256_d0_w32) k0_pay51 8#32 k0_pay52 k0_pay53 (kt n)

/-- The greatest score of each block of 32 keys of tile `n`. -/
def blockMax (n : ℕ) : Vec F S1x8x256 .f32 :=
  if n < qi then k0_pay43 (k0_pay36 x1) k0_pay37 (constant S256x128 .f32 0x00000000#32) x0 (kt n)
  else k0_pay58 (k0_pay55 (queries x0 x1) (iota .tc S256x256 32 [0] iota_S256x256_d0_w32) k0_pay51 8#32 k0_pay52 k0_pay53 (kt n))

/-- The sum of the exponentials of each block of tile `n`. -/
def blockSum (n : ℕ) : Vec F S1x8x256 .f32 :=
  if n < qi then k0_pay44 (k0_pay36 x1) k0_pay37 (constant S256x128 .f32 0x00000000#32) x0 (kt n)
  else k0_pay59 (k0_pay56 (queries x0 x1) (iota .tc S256x256 32 [0] iota_S256x256_d0_w32) k0_pay51 8#32 k0_pay52 k0_pay53 (kt n))

/-- The greatest score of a query, per residue of the block's number modulo eight. -/
def rowMax : FVec F S8x256 .f32 := accum (fun n a => k0_pay61 a (blockMax x0 x1 kt qi n)) k0_pay60 (qi + 1)

/-- The weight of each block of tile `n`: the exponential of its greatest score over the query's greatest. -/
def weight (n : ℕ) : Vec F S1x8x256 .f32 := k0_pay66 (rowMax x0 x1 kt qi) (blockMax x0 x1 kt qi n)

/-- The sum of the weighted block sums of a query. -/
def rowSum : FVec F S8x256 .f32 :=
  accum (fun n a => k0_pay67 (rowMax x0 x1 kt qi) a (blockMax x0 x1 kt qi n) (blockSum x0 x1 kt qi n)) k0_pay64 (qi + 1)

/-- The output block: the products of the quantised probabilities with the value tiles, summed over the tiles. -/
def bodyOut : Vec F S1x1x256x128 .bf16 :=
  k0_pay7 (accum (fun n a => k0_pay5 a (probs x0 x1 kt qi n) (gainOf (k0_pay71 (rowSum x0 x1 kt qi)) (weight x0 x1 kt qi n))
    (scaleOf (k0_pay71 (rowSum x0 x1 kt qi)) (weight x0 x1 kt qi n)) (vt n)) k0_pay4 (qi + 1))

end Pure

/-! ## The scratch buffers read back -/

/-- A buffer of slabs along axis `a`, of which a loop wrote the first `N` and a store then slab `N`, read at slab `n ≤ N`. -/
theorem readAt_filled {κ : Kind} {sp : Space} {s : Shape} {e : EltTy} {Val : EltTy → Type} (v : View sig κ sp s e) {N : ℕ}
    {off : Fin N → Fin s.rank → ℕ} {off' offd size : Fin s.rank → ℕ}
    (inb : ∀ k a, off k a + size a ≤ s.size a) (inbd : ∀ a, offd a + size a ≤ s.size a) (inb' : ∀ a, off' a + size a ≤ s.size a)
    (p : (k : Fin N) → (Rect.unit (off k) size (inb k)).shape.Idx → Val e) (pd : (Rect.unit offd size inbd).shape.Idx → Val e)
    (G : v.ty.Contents Val) (a : Fin s.rank) (hsz : size a = 1) (ho : ∀ k, off k a = k.val) (hd : offd a = N) (n : ℕ) (hn : n < N + 1)
    (h1 : ∀ k : Fin N, k.val = n → off' = off k) (h2 : n = N → off' = offd) :
    v.readAt Val (Rect.unit off' size inb').toLoadRect
        (v.writes Val (iter (fun (k : Fin N) (g : v.ty.Contents Val) => v.writes Val g [⟨Rect.unit (off k) size (inb k), p k⟩]) G N)
          [⟨Rect.unit offd size inbd, pd⟩])
      = if h : n < N then p ⟨n, h⟩ else pd := by
  by_cases h : n < N
  · rw [dif_pos h, readAt_miss v _ inbd inb' _ _ a (Or.inl (by rw [h1 ⟨n, h⟩ rfl, ho, hsz, hd]; exact h)), View.writes_nil]
    exact readAt_iter_hit v inb inb' p G a N (fun j k hjk => by rw [ho, ho, hsz]; exact hjk) ⟨n, h⟩ h (h1 ⟨n, h⟩ rfl)
  · rw [dif_neg h]
    exact readAt_hit v _ inbd inb' _ _ (h2 (by omega))

/-- A store of a whole buffer leaves its payload. -/
theorem read_whole {κ : Kind} {sp : Space} {s : Shape} {e : EltTy} {Val : EltTy → Type} (v : View sig κ sp s e) (f : v.ty.Contents Val)
    {off : Fin s.rank → ℕ} (hz : off = fun _ => 0) (inb : ∀ a, off a + s.size a ≤ s.size a)
    (w : (Rect.unit off s.size inb).shape.Idx → Val e) (L : List (View.Piece Val s e)) :
    v.read Val (v.writes Val f ((⟨Rect.unit off s.size inb, w⟩ : View.Piece Val s e) :: L)) = w :=
  funext fun y => View.read_writes_cons_unit_of_mem v f inb w L y y hz fun _ => (Nat.zero_add _).symm

section Read

theorem keyTile_inb (n : ℕ) : ∀ a : Fin 4, (![0, 0, 256 * min n 47, 0] : Fin 4 → ℕ) a + S1x1x256x128.size a ≤ S1x1x12288x128.size a :=
  by intro a; fin_cases a <;> first | exact le_rfl | (show 256 * min n 47 + 256 ≤ 12288; omega)
theorem keyTile_inb' (n : ℕ) : ∀ a : Fin 4, (![0, 0, 256 * min n 47, 0] : Fin 4 → ℕ) a + S1x1x256x4.size a ≤ S1x1x12288x4.size a :=
  by intro a; fin_cases a <;> first | exact le_rfl | (show 256 * min n 47 + 256 ≤ 12288; omega)
theorem valTile_inb (n : ℕ) : ∀ a : Fin 4, (![0, 0, 0, 256 * min n 47] : Fin 4 → ℕ) a + S1x1x128x256.size a ≤ S1x1x128x12288.size a :=
  by intro a; fin_cases a <;> first | exact le_rfl | (show 256 * min n 47 + 256 ≤ 12288; omega)
theorem valTile_inb' (n : ℕ) : ∀ a : Fin 5, (![0, 0, min n 47, 0, 0] : Fin 5 → ℕ) a + S1x1x1x128x8.size a ≤ S1x1x48x128x8.size a :=
  by intro a; fin_cases a <;> first | exact le_rfl | (show min n 47 + 1 ≤ 48; omega)

variable (i : grid0.Coords)
  (x0 : Vec F S1x1x256x128 .fp8e4m3) (x1 : Vec F S1x1x256x4 .i8) (kt : ℕ → Vec F S256x128 .bf16) (vt : ℕ → Vec F S1x128x256 .bf16)

/-- The contents of the scratch buffer of keys: tile after tile. -/
def HasKeys (X : Vec F S12288x128 .bf16) (kt : ℕ → Vec F S256x128 .bf16) : Prop :=
  ∀ n, n < 48 → ∀ (off : Fin 2 → ℕ) (inb : ∀ a, off a + S256x128.size a ≤ S12288x128.size a), off = ![256 * n, 0] →
    View.ld (Val := Elt F) (e' := .bf16) X (Rect.unit (s := S12288x128) off S256x128.size inb) = kt n

/-- The contents of the scratch buffer of values: tile after tile. -/
def HasVals (X : Vec F S48x128x256 .bf16) (vt : ℕ → Vec F S1x128x256 .bf16) : Prop :=
  ∀ n, n < 48 → ∀ (off : Fin 3 → ℕ) (inb : ∀ a, off a + S1x128x256.size a ≤ S48x128x256.size a), off = ![n, 0, 0] →
    View.ld (Val := Elt F) (e' := .bf16) X (Rect.unit (s := S48x128x256) off S1x128x256.size inb) = vt n

/-- Key tile `n` of a head, dequantised, its rows in the order of the kernel's transposed scores. -/
def keyTile (x2 : Vec F S1x1x12288x128 .fp8e4m3) (x3 : Vec F S1x1x12288x4 .i8) (n : ℕ) : Vec F S256x128 .bf16 :=
  k0_pay8 (k0_pay12 k0_pay11) (k0_pay34 k0_pay14 k0_pay15 1#32)
    (View.ld (Val := Elt F) (e' := .fp8e4m3) x2 (Rect.unit (s := S1x1x12288x128) ![0, 0, 256 * min n 47, 0] S1x1x256x128.size (keyTile_inb n)))
    (View.ld (Val := Elt F) (e' := .i8) x3 (Rect.unit (s := S1x1x12288x4) ![0, 0, 256 * min n 47, 0] S1x1x256x4.size (keyTile_inb' n)))

/-- Value tile `n` of a head, dequantised. -/
def valTile (x4 : Vec F S1x1x128x12288 .fp8e4m3) (x5 : Vec F S1x1x48x128x8 .i8) (n : ℕ) : Vec F S1x128x256 .bf16 :=
  k0_pay35 k0_pay13
    (k0_pay9 (k0_pay12 k0_pay11) (View.ld (Val := Elt F) (e' := .fp8e4m3) x4 (Rect.unit (s := S1x1x128x12288) ![0, 0, 0, 256 * min n 47] S1x1x128x256.size (valTile_inb n))))
    (k0_pay10 (View.ld (Val := Elt F) (e' := .i8) x5 (Rect.unit (s := S1x1x48x128x8) ![0, 0, min n 47, 0, 0] S1x1x1x128x8.size (valTile_inb' n))))

/-- A load depends on its offsets only. -/
theorem ld_congr {s : Shape} {e : EltTy} {Val : EltTy → Type} (X : s.Idx → Val e) {off off' size : Fin s.rank → ℕ}
    (inb : ∀ a, off a + size a ≤ s.size a) (inb' : ∀ a, off' a + size a ≤ s.size a) (h : off = off') :
    View.ld X (Rect.unit off size inb) = View.ld X (Rect.unit off' size inb') := by
  subst h; rfl

/-- The loop over the head's tiles fills the buffer of keys. -/
theorem hasKeys_fill (arg6 : Memref sig .tc .vmem S1x1x12288x128 .fp8e4m3) (arg7 : Memref sig .tc .vmem S1x1x12288x4 .i8)
    (arg11 : Memref sig .tc .vmem S12288x128 .bf16) (h1 : k0_cond1 i = 1#1)
    (f2 : (Memref.view arg6).ty.Contents (Elt F)) (f3 : (Memref.view arg7).ty.Contents (Elt F)) (f7 : (Memref.view arg11).ty.Contents (Elt F)) :
    HasKeys ((Memref.view arg11).read (Elt F) (iter (fun (k : Fin k0_t1_loop.trips) (g : (Memref.view arg11).ty.Contents (Elt F)) => (Memref.view arg11).writes (Elt F) g
      [⟨Rect.unit (s := S12288x128) (k0_off3 k) S256x128.size (k0_off3_inb i k h1), k0_pay8 (k0_pay12 k0_pay11) (k0_pay34 k0_pay14 k0_pay15 1#32)
        ((Memref.view arg6).readAt (Elt F) (Rect.unit (s := S1x1x12288x128) (k0_off1 k) S1x1x256x128.size (k0_off1_inb i k h1)).toLoadRect f2)
        ((Memref.view arg7).readAt (Elt F) (Rect.unit (s := S1x1x12288x4) (k0_off2 k) S1x1x256x4.size (k0_off2_inb i k h1)).toLoadRect f3)⟩]) f7 k0_t1_loop.trips))
      (keyTile ((Memref.view arg6).read (Elt F) f2) ((Memref.view arg7).read (Elt F) f3)) := by
  intro n hn off inb h
  have hk : n < k0_t1_loop.trips := lt_of_lt_of_eq hn trips_t1.symm
  refine (readAt_iter_hit (Memref.view arg11) (fun k => k0_off3_inb i k h1) inb _ f7 (0 : Fin 2) _ ?_ ⟨n, hk⟩ hk (h.trans (off_t1 ⟨n, hk⟩).2.2.1.symm)).trans ?_
  · intro j k hjk
    rw [(off_t1 j).2.2.1, (off_t1 k).2.2.1]
    show 256 * j.val + 256 ≤ 256 * k.val
    omega
  · have hmin : min n 47 = n := by omega
    have e1 : k0_off1 ⟨n, hk⟩ = ![0, 0, 256 * min n 47, 0] := by rw [(off_t1 ⟨n, hk⟩).1, hmin]
    have e2 : k0_off2 ⟨n, hk⟩ = ![0, 0, 256 * min n 47, 0] := by rw [(off_t1 ⟨n, hk⟩).2.1, hmin]
    exact congrArg₂ (k0_pay8 _ _) (ld_congr (Val := Elt F) _ _ _ e1) (ld_congr (Val := Elt F) _ _ _ e2)

/-- The same loop fills the buffer of values. -/
theorem hasVals_fill (arg8 : Memref sig .tc .vmem S1x1x128x12288 .fp8e4m3) (arg9 : Memref sig .tc .vmem S1x1x48x128x8 .i8)
    (arg12 : Memref sig .tc .vmem S48x128x256 .bf16) (h1 : k0_cond1 i = 1#1)
    (f4 : (Memref.view arg8).ty.Contents (Elt F)) (f5 : (Memref.view arg9).ty.Contents (Elt F)) (f8 : (Memref.view arg12).ty.Contents (Elt F)) :
    HasVals ((Memref.view arg12).read (Elt F) (iter (fun (k : Fin k0_t1_loop.trips) (g : (Memref.view arg12).ty.Contents (Elt F)) => (Memref.view arg12).writes (Elt F) g
      [⟨Rect.unit (s := S48x128x256) (k0_off6 k) S1x128x256.size (k0_off6_inb i k h1), k0_pay35 k0_pay13
        (k0_pay9 (k0_pay12 k0_pay11) ((Memref.view arg8).readAt (Elt F) (Rect.unit (s := S1x1x128x12288) (k0_off4 k) S1x1x128x256.size (k0_off4_inb i k h1)).toLoadRect f4))
        (k0_pay10 ((Memref.view arg9).readAt (Elt F) (Rect.unit (s := S1x1x48x128x8) (k0_off5 k) S1x1x1x128x8.size (k0_off5_inb i k h1)).toLoadRect f5))⟩]) f8 k0_t1_loop.trips))
      (valTile ((Memref.view arg8).read (Elt F) f4) ((Memref.view arg9).read (Elt F) f5)) := by
  intro n hn off inb h
  have hk : n < k0_t1_loop.trips := lt_of_lt_of_eq hn trips_t1.symm
  refine (readAt_iter_hit (Memref.view arg12) (fun k => k0_off6_inb i k h1) inb _ f8 (0 : Fin 3) _ ?_ ⟨n, hk⟩ hk (h.trans (off_t1 ⟨n, hk⟩).2.2.2.2.2.symm)).trans ?_
  · intro j k hjk
    rw [(off_t1 j).2.2.2.2.2, (off_t1 k).2.2.2.2.2]
    exact hjk
  · have hmin : min n 47 = n := by omega
    have e1 : k0_off4 ⟨n, hk⟩ = ![0, 0, 0, 256 * min n 47] := by rw [(off_t1 ⟨n, hk⟩).2.2.2.1, hmin]
    have e2 : k0_off5 ⟨n, hk⟩ = ![0, 0, min n 47, 0, 0] := by rw [(off_t1 ⟨n, hk⟩).2.2.2.2.1, hmin]
    exact congrArg₂ (fun a b => k0_pay35 k0_pay13 (k0_pay9 (k0_pay12 k0_pay11) a) (k0_pay10 b)) (ld_congr (Val := Elt F) _ _ _ e1) (ld_congr (Val := Elt F) _ _ _ e2)

/-- What a slab buffer of `[8, 256]` slabs holds after the loop over the earlier tiles and the store of the diagonal one. -/
theorem read_slab (arg : Memref sig .tc .vmem S48x8x256 .f32) (G : (Memref.view arg).ty.Contents (Elt F))
    (p : Fin (k0_t2_loop i).trips → Vec F S1x8x256 .f32) (pd : Vec F S1x8x256 .f32) (P : ℕ → Vec F S1x8x256 .f32)
    (hp : ∀ k, p k = P k.val) (hpd : pd = P (i 3).val)
    (n : ℕ) (hn : n < (i 3).val + 1) {off : Fin 3 → ℕ} (inb : ∀ a, off a + S1x8x256.size a ≤ S48x8x256.size a) (h : off = ![n, 0, 0]) :
    (Memref.view arg).readAt (Elt F) (Rect.unit (s := S48x8x256) off S1x8x256.size inb).toLoadRect
        ((Memref.view arg).writes (Elt F)
          (iter (fun (k : Fin (k0_t2_loop i).trips) (g : (Memref.view arg).ty.Contents (Elt F)) => (Memref.view arg).writes (Elt F) g
            [⟨Rect.unit (s := S48x8x256) (k0_off9 i k) S1x8x256.size (k0_off9_inb i k), p k⟩]) G (k0_t2_loop i).trips)
          [⟨Rect.unit (s := S48x8x256) (k0_off15 i) S1x8x256.size (k0_off15_inb i), pd⟩])
      = P n := by
  refine (readAt_filled (Memref.view arg) (k0_off9_inb i) (k0_off15_inb i) inb p pd G (0 : Fin 3) rfl
    (fun k => congrFun (off_t2 i k).2.2 0) ((congrFun (off_diag i).2.2 0).trans (trips_t2 i).symm) n (by rw [trips_t2]; exact hn)
    (fun k hk => by rw [h, (off_t2 i k).2.2, hk]) (fun hk => by rw [h, (off_diag i).2.2, hk, trips_t2])).trans ?_
  split
  · exact hp _
  · rw [hpd]; congr 1; rw [trips_t2] at *; omega

/-- The same of the buffer of exponentials, whose slabs are `[32, 8, 256]`. -/
theorem read_slab4 (arg : Memref sig .tc .vmem S48x32x8x256 .f32) (G : (Memref.view arg).ty.Contents (Elt F))
    (p : Fin (k0_t2_loop i).trips → Vec F S1x32x8x256 .f32) (pd : Vec F S1x32x8x256 .f32) (P : ℕ → Vec F S1x32x8x256 .f32)
    (hp : ∀ k, p k = P k.val) (hpd : pd = P (i 3).val)
    (n : ℕ) (hn : n < (i 3).val + 1) {off : Fin 4 → ℕ} (inb : ∀ a, off a + S1x32x8x256.size a ≤ S48x32x8x256.size a) (h : off = ![n, 0, 0, 0]) :
    (Memref.view arg).readAt (Elt F) (Rect.unit (s := S48x32x8x256) off S1x32x8x256.size inb).toLoadRect
        ((Memref.view arg).writes (Elt F)
          (iter (fun (k : Fin (k0_t2_loop i).trips) (g : (Memref.view arg).ty.Contents (Elt F)) => (Memref.view arg).writes (Elt F) g
            [⟨Rect.unit (s := S48x32x8x256) (k0_off8 i k) S1x32x8x256.size (k0_off8_inb i k), p k⟩]) G (k0_t2_loop i).trips)
          [⟨Rect.unit (s := S48x32x8x256) (k0_off14 i) S1x32x8x256.size (k0_off14_inb i), pd⟩])
      = P n := by
  refine (readAt_filled (Memref.view arg) (k0_off8_inb i) (k0_off14_inb i) inb p pd G (0 : Fin 4) rfl
    (fun k => congrFun (off_t2 i k).2.1 0) ((congrFun (off_diag i).2.1 0).trans (trips_t2 i).symm) n (by rw [trips_t2]; exact hn)
    (fun k hk => by rw [h, (off_t2 i k).2.1, hk]) (fun hk => by rw [h, (off_diag i).2.1, hk, trips_t2])).trans ?_
  split
  · exact hp _
  · rw [hpd]; congr 1; rw [trips_t2] at *; omega

/-- The accumulator after the body's last loop, from what the buffers read at each tile. -/
theorem out_of_reads (arg12 : Memref sig .tc .vmem S48x128x256 .bf16) (arg13 : Memref sig .tc .vmem S48x32x8x256 .f32)
    (arg14 arg15 arg16 : Memref sig .tc .vmem S48x8x256 .f32) (arg17 : Memref sig .tc .vmem S48x16x256 .bf16)
    (f8 : (Memref.view arg12).ty.Contents (Elt F)) (G13 : (Memref.view arg13).ty.Contents (Elt F)) (G14 : (Memref.view arg14).ty.Contents (Elt F))
    (G15 : (Memref.view arg15).ty.Contents (Elt F)) (f12 : (Memref.view arg16).ty.Contents (Elt F)) (f13 : (Memref.view arg17).ty.Contents (Elt F))
    (hv : HasVals ((Memref.view arg12).read (Elt F) f8) vt)
    (h13 : ∀ n, n < (i 3).val + 1 → ∀ (off : Fin 4 → ℕ) (inb : ∀ a, off a + S1x32x8x256.size a ≤ S48x32x8x256.size a), off = ![n, 0, 0, 0] →
      (Memref.view arg13).readAt (Elt F) (Rect.unit (s := S48x32x8x256) off S1x32x8x256.size inb).toLoadRect G13 = probs x0 x1 kt (i 3).val n)
    (h14 : ∀ n, n < (i 3).val + 1 → ∀ (off : Fin 3 → ℕ) (inb : ∀ a, off a + S1x8x256.size a ≤ S48x8x256.size a), off = ![n, 0, 0] →
      (Memref.view arg14).readAt (Elt F) (Rect.unit (s := S48x8x256) off S1x8x256.size inb).toLoadRect G14 = blockMax x0 x1 kt (i 3).val n)
    (h15 : ∀ n, n < (i 3).val + 1 → ∀ (off : Fin 3 → ℕ) (inb : ∀ a, off a + S1x8x256.size a ≤ S48x8x256.size a), off = ![n, 0, 0] →
      (Memref.view arg15).readAt (Elt F) (Rect.unit (s := S48x8x256) off S1x8x256.size inb).toLoadRect G15 = blockSum x0 x1 kt (i 3).val n)
    (M L : FVec F S8x256 .f32) (W : (Memref.view arg16).ty.Contents (Elt F))
    (hM : M = iter (fun (k : Fin (k0_t4_loop i).trips) a => k0_pay61 a ((Memref.view arg14).readAt (Elt F) (Rect.unit (s := S48x8x256) (k0_off16 i k) S1x8x256.size (k0_off16_inb i k)).toLoadRect G14))
      k0_pay60 (k0_t4_loop i).trips)
    (hL : L = iter (fun (k : Fin (k0_t6_loop i).trips) a => k0_pay67 M a
      ((Memref.view arg14).readAt (Elt F) (Rect.unit (s := S48x8x256) (k0_off18 i k) S1x8x256.size (k0_off18_inb i k)).toLoadRect G14)
      ((Memref.view arg15).readAt (Elt F) (Rect.unit (s := S48x8x256) (k0_off18 i k) S1x8x256.size (k0_off18_inb i k)).toLoadRect G15)) k0_pay64 (k0_t6_loop i).trips)
    (hW : W = iter (fun (k : Fin (k0_t6_loop i).trips) (g : (Memref.view arg16).ty.Contents (Elt F)) => (Memref.view arg16).writes (Elt F) g
      [⟨Rect.unit (s := S48x8x256) (k0_off18 i k) S1x8x256.size (k0_off18_inb i k),
        k0_pay66 M ((Memref.view arg14).readAt (Elt F) (Rect.unit (s := S48x8x256) (k0_off18 i k) S1x8x256.size (k0_off18_inb i k)).toLoadRect G14)⟩]) f12 (k0_t6_loop i).trips) :
    k0_pay7 (iter (fun (k : Fin (k0_t10_loop i).trips) a => k0_pay5 a
        ((Memref.view arg13).readAt (Elt F) (Rect.unit (s := S48x32x8x256) (k0_off24 i k) S1x32x8x256.size (k0_off24_inb i k)).toLoadRect G13)
        ((Memref.view arg16).readAt (Elt F) (Rect.unit (s := S48x8x256) (k0_off25 i k) S1x8x256.size (k0_off25_inb i k)).toLoadRect
          ((Memref.view arg16).writes (Elt F) W (gains i arg16 L W (k0_t8_loop i).trips)))
        ((Memref.view arg17).readAt (Elt F) (Rect.unit (s := S48x16x256) (k0_off26 i k) S1x16x256.size (k0_off26_inb i k)).toLoadRect
          (iter (fun (k : Fin (k0_t8_loop i).trips) (g : (Memref.view arg17).ty.Contents (Elt F)) => (Memref.view arg17).writes (Elt F) g
            [⟨Rect.unit (s := S48x16x256) (k0_off21 i k) S1x16x256.size (k0_off21_inb i k),
              scaleOf (k0_pay71 L) ((Memref.view arg16).readAt (Elt F) (Rect.unit (s := S48x8x256) (k0_off20 i k) S1x8x256.size (k0_off20_inb i k)).toLoadRect
                ((Memref.view arg16).writes (Elt F) W (gains i arg16 L W k.val)))⟩]) f13 (k0_t8_loop i).trips))
        ((Memref.view arg12).readAt (Elt F) (Rect.unit (s := S48x128x256) (k0_off27 i k) S1x128x256.size (k0_off27_inb i k)).toLoadRect f8))
      k0_pay4 (k0_t10_loop i).trips)
    = bodyOut x0 x1 kt vt (i 3).val := by
  have r_i3 : (i 3).val < 48 := (i 3).isLt
  obtain ⟨t4, t6, t8, t10⟩ := trips_tail i
  have eM : M = rowMax x0 x1 kt (i 3).val := by
    rw [hM]
    exact iter_all (fun n a => k0_pay61 a (blockMax x0 x1 kt (i 3).val n)) t4 fun k a => by
      have hk : k.val < (i 3).val + 1 := lt_of_lt_of_eq k.isLt t4
      rw [h14 k.val hk _ _ (off_t4 i k)]
  have eL : L = rowSum x0 x1 kt (i 3).val := by
    rw [hL]
    exact iter_all (fun n a => k0_pay67 (rowMax x0 x1 kt (i 3).val) a (blockMax x0 x1 kt (i 3).val n) (blockSum x0 x1 kt (i 3).val n)) t6 fun k a => by
      have hk : k.val < (i 3).val + 1 := lt_of_lt_of_eq k.isLt t6
      rw [h14 k.val hk _ _ (off_t6 i k), h15 k.val hk _ _ (off_t6 i k), eM]
  have eW : ∀ n, n < (i 3).val + 1 → ∀ (off : Fin 3 → ℕ) (inb : ∀ a, off a + S1x8x256.size a ≤ S48x8x256.size a), off = ![n, 0, 0] →
      (Memref.view arg16).readAt (Elt F) (Rect.unit (s := S48x8x256) off S1x8x256.size inb).toLoadRect W = weight x0 x1 kt (i 3).val n := by
    intro n hn off inb h
    have hk : n < (k0_t6_loop i).trips := by omega
    rw [hW]
    refine (readAt_iter_hit (Memref.view arg16) (k0_off18_inb i) inb _ f12 (0 : Fin 3) _ ?_ ⟨n, hk⟩ hk (h.trans (off_t6 i ⟨n, hk⟩).symm)).trans ?_
    · intro j k hjk
      rw [off_t6 i j, off_t6 i k]
      exact hjk
    · rw [h14 n hn _ _ (off_t6 i ⟨n, hk⟩), eM]; rfl
  refine congrArg k0_pay7 ?_
  refine iter_all (fun n a => k0_pay5 a (probs x0 x1 kt (i 3).val n) (gainOf (k0_pay71 (rowSum x0 x1 kt (i 3).val)) (weight x0 x1 kt (i 3).val n))
    (scaleOf (k0_pay71 (rowSum x0 x1 kt (i 3).val)) (weight x0 x1 kt (i 3).val n)) (vt n)) t10 fun k a => ?_
  have hk : k.val < (i 3).val + 1 := lt_of_lt_of_eq k.isLt t10
  obtain ⟨o24, o25, o26, o27⟩ := off_t10 i k
  have hk8 : k.val < (k0_t8_loop i).trips := by omega
  have e17 : (Memref.view arg17).readAt (Elt F) (Rect.unit (s := S48x16x256) (k0_off26 i k) S1x16x256.size (k0_off26_inb i k)).toLoadRect
          (iter (fun (k : Fin (k0_t8_loop i).trips) (g : (Memref.view arg17).ty.Contents (Elt F)) => (Memref.view arg17).writes (Elt F) g
            [⟨Rect.unit (s := S48x16x256) (k0_off21 i k) S1x16x256.size (k0_off21_inb i k),
              scaleOf (k0_pay71 L) ((Memref.view arg16).readAt (Elt F) (Rect.unit (s := S48x8x256) (k0_off20 i k) S1x8x256.size (k0_off20_inb i k)).toLoadRect
                ((Memref.view arg16).writes (Elt F) W (gains i arg16 L W k.val)))⟩]) f13 (k0_t8_loop i).trips)
      = scaleOf (k0_pay71 (rowSum x0 x1 kt (i 3).val)) (weight x0 x1 kt (i 3).val k.val) := by
    refine (readAt_iter_hit (Memref.view arg17) (k0_off21_inb i) (k0_off26_inb i k) _ f13 (0 : Fin 3) _ ?_ ⟨k.val, hk8⟩ hk8 (o26.trans (off_t8 i ⟨k.val, hk8⟩).2.symm)).trans ?_
    · intro j k hjk
      rw [(off_t8 i j).2, (off_t8 i k).2]
      exact hjk
    · rw [readAt_gains_late i arg16 L W k.val k.val le_rfl _ (off_t8 i ⟨k.val, hk8⟩).1, eW k.val hk _ _ (off_t8 i ⟨k.val, hk8⟩).1, eL]
  have e12 : (Memref.view arg12).readAt (Elt F) (Rect.unit (s := S48x128x256) (k0_off27 i k) S1x128x256.size (k0_off27_inb i k)).toLoadRect f8 = vt k.val :=
    hv k.val (by omega) _ _ o27
  rw [h13 k.val hk _ _ o24, e12, readAt_gains i arg16 L W _ k.val hk8 le_rfl _ o25, eW k.val hk _ _ o25, e17, eL]

end Read

/-- The buffer of exponentials after the loop over the earlier tiles and the store of the diagonal one. -/
abbrev cont13 (i : grid0.Coords) (arg4 : Memref sig .tc .vmem S1x1x256x128 .fp8e4m3) (arg5 : Memref sig .tc .vmem S1x1x256x4 .i8) (arg11 : Memref sig .tc .vmem S12288x128 .bf16) (arg13 : Memref sig .tc .vmem S48x32x8x256 .f32)
    (f0 : (Memref.view arg4).ty.Contents (Elt F)) (f1 : (Memref.view arg5).ty.Contents (Elt F)) (f7 : (Memref.view arg11).ty.Contents (Elt F)) (f9 : (Memref.view arg13).ty.Contents (Elt F)) : (Memref.view arg13).ty.Contents (Elt F) :=
  ((Memref.view arg13).writes (Elt F) (iter (fun (k : Fin (k0_t2_loop i).trips) (g : (Memref.view arg13).ty.Contents (Elt F)) => (Memref.view arg13).writes (Elt F) g [⟨Rect.unit (s := S48x32x8x256) (k0_off8 i k) S1x32x8x256.size (k0_off8_inb i k), k0_pay42 (k0_pay36 ((Memref.view arg5).readAt (Elt F) (Rect.unit (s := S1x1x256x4) ![0, 0, 0, 0] S1x1x256x4.size inb_S1x1x256x4_S1x1x256x4_0_0_0_0).toLoadRect f1)) k0_pay37 (constant S256x128 .f32 0x00000000#32) ((Memref.view arg4).readAt (Elt F) (Rect.unit (s := S1x1x256x128) ![0, 0, 0, 0] S1x1x256x128.size inb_S1x1x256x128_S1x1x256x128_0_0_0_0).toLoadRect f0) ((Memref.view arg11).readAt (Elt F) (Rect.unit (s := S12288x128) (k0_off7 i k) S256x128.size (k0_off7_inb i k)).toLoadRect f7)⟩]) f9 (k0_t2_loop i).trips) [⟨Rect.unit (s := S48x32x8x256) (k0_off14 i) S1x32x8x256.size (k0_off14_inb i), k0_pay57 (k0_pay38 (k0_pay36 ((Memref.view arg5).readAt (Elt F) (Rect.unit (s := S1x1x256x4) ![0, 0, 0, 0] S1x1x256x4.size inb_S1x1x256x4_S1x1x256x4_0_0_0_0).toLoadRect f1)) k0_pay37 (constant S256x128 .f32 0x00000000#32) ((Memref.view arg4).readAt (Elt F) (Rect.unit (s := S1x1x256x128) ![0, 0, 0, 0] S1x1x256x128.size inb_S1x1x256x128_S1x1x256x128_0_0_0_0).toLoadRect f0)) (iota .tc S256x256 32 [0] iota_S256x256_d0_w32) k0_pay51 8#32 k0_pay52 k0_pay53 ((Memref.view arg11).readAt (Elt F) (Rect.unit (s := S12288x128) (k0_off13 i) S256x128.size (k0_off13_inb i)).toLoadRect f7)⟩])

/-- The buffer of block maxima after the same. -/
abbrev cont14 (i : grid0.Coords) (arg4 : Memref sig .tc .vmem S1x1x256x128 .fp8e4m3) (arg5 : Memref sig .tc .vmem S1x1x256x4 .i8) (arg11 : Memref sig .tc .vmem S12288x128 .bf16) (arg14 : Memref sig .tc .vmem S48x8x256 .f32)
    (f0 : (Memref.view arg4).ty.Contents (Elt F)) (f1 : (Memref.view arg5).ty.Contents (Elt F)) (f7 : (Memref.view arg11).ty.Contents (Elt F)) (f10 : (Memref.view arg14).ty.Contents (Elt F)) : (Memref.view arg14).ty.Contents (Elt F) :=
  ((Memref.view arg14).writes (Elt F) (iter (fun (k : Fin (k0_t2_loop i).trips) (g : (Memref.view arg14).ty.Contents (Elt F)) => (Memref.view arg14).writes (Elt F) g [⟨Rect.unit (s := S48x8x256) (k0_off9 i k) S1x8x256.size (k0_off9_inb i k), k0_pay43 (k0_pay36 ((Memref.view arg5).readAt (Elt F) (Rect.unit (s := S1x1x256x4) ![0, 0, 0, 0] S1x1x256x4.size inb_S1x1x256x4_S1x1x256x4_0_0_0_0).toLoadRect f1)) k0_pay37 (constant S256x128 .f32 0x00000000#32) ((Memref.view arg4).readAt (Elt F) (Rect.unit (s := S1x1x256x128) ![0, 0, 0, 0] S1x1x256x128.size inb_S1x1x256x128_S1x1x256x128_0_0_0_0).toLoadRect f0) ((Memref.view arg11).readAt (Elt F) (Rect.unit (s := S12288x128) (k0_off7 i k) S256x128.size (k0_off7_inb i k)).toLoadRect f7)⟩]) f10 (k0_t2_loop i).trips) [⟨Rect.unit (s := S48x8x256) (k0_off15 i) S1x8x256.size (k0_off15_inb i), k0_pay58 (k0_pay55 (k0_pay38 (k0_pay36 ((Memref.view arg5).readAt (Elt F) (Rect.unit (s := S1x1x256x4) ![0, 0, 0, 0] S1x1x256x4.size inb_S1x1x256x4_S1x1x256x4_0_0_0_0).toLoadRect f1)) k0_pay37 (constant S256x128 .f32 0x00000000#32) ((Memref.view arg4).readAt (Elt F) (Rect.unit (s := S1x1x256x128) ![0, 0, 0, 0] S1x1x256x128.size inb_S1x1x256x128_S1x1x256x128_0_0_0_0).toLoadRect f0)) (iota .tc S256x256 32 [0] iota_S256x256_d0_w32) k0_pay51 8#32 k0_pay52 k0_pay53 ((Memref.view arg11).readAt (Elt F) (Rect.unit (s := S12288x128) (k0_off13 i) S256x128.size (k0_off13_inb i)).toLoadRect f7))⟩])

/-- The buffer of block sums after the same. -/
abbrev cont15 (i : grid0.Coords) (arg4 : Memref sig .tc .vmem S1x1x256x128 .fp8e4m3) (arg5 : Memref sig .tc .vmem S1x1x256x4 .i8) (arg11 : Memref sig .tc .vmem S12288x128 .bf16) (arg15 : Memref sig .tc .vmem S48x8x256 .f32)
    (f0 : (Memref.view arg4).ty.Contents (Elt F)) (f1 : (Memref.view arg5).ty.Contents (Elt F)) (f7 : (Memref.view arg11).ty.Contents (Elt F)) (f11 : (Memref.view arg15).ty.Contents (Elt F)) : (Memref.view arg15).ty.Contents (Elt F) :=
  ((Memref.view arg15).writes (Elt F) (iter (fun (k : Fin (k0_t2_loop i).trips) (g : (Memref.view arg15).ty.Contents (Elt F)) => (Memref.view arg15).writes (Elt F) g [⟨Rect.unit (s := S48x8x256) (k0_off9 i k) S1x8x256.size (k0_off9_inb i k), k0_pay44 (k0_pay36 ((Memref.view arg5).readAt (Elt F) (Rect.unit (s := S1x1x256x4) ![0, 0, 0, 0] S1x1x256x4.size inb_S1x1x256x4_S1x1x256x4_0_0_0_0).toLoadRect f1)) k0_pay37 (constant S256x128 .f32 0x00000000#32) ((Memref.view arg4).readAt (Elt F) (Rect.unit (s := S1x1x256x128) ![0, 0, 0, 0] S1x1x256x128.size inb_S1x1x256x128_S1x1x256x128_0_0_0_0).toLoadRect f0) ((Memref.view arg11).readAt (Elt F) (Rect.unit (s := S12288x128) (k0_off7 i k) S256x128.size (k0_off7_inb i k)).toLoadRect f7)⟩]) f11 (k0_t2_loop i).trips) [⟨Rect.unit (s := S48x8x256) (k0_off15 i) S1x8x256.size (k0_off15_inb i), k0_pay59 (k0_pay56 (k0_pay38 (k0_pay36 ((Memref.view arg5).readAt (Elt F) (Rect.unit (s := S1x1x256x4) ![0, 0, 0, 0] S1x1x256x4.size inb_S1x1x256x4_S1x1x256x4_0_0_0_0).toLoadRect f1)) k0_pay37 (constant S256x128 .f32 0x00000000#32) ((Memref.view arg4).readAt (Elt F) (Rect.unit (s := S1x1x256x128) ![0, 0, 0, 0] S1x1x256x128.size inb_S1x1x256x128_S1x1x256x128_0_0_0_0).toLoadRect f0)) (iota .tc S256x256 32 [0] iota_S256x256_d0_w32) k0_pay51 8#32 k0_pay52 k0_pay53 ((Memref.view arg11).readAt (Elt F) (Rect.unit (s := S12288x128) (k0_off13 i) S256x128.size (k0_off13_inb i)).toLoadRect f7))⟩])

/-- The greatest scores that the loop over the block maxima leaves. -/
abbrev contM (i : grid0.Coords) (arg14 : Memref sig .tc .vmem S48x8x256 .f32) (G14 : (Memref.view arg14).ty.Contents (Elt F)) : FVec F S8x256 .f32 :=
  iter (fun (k : Fin (k0_t4_loop i).trips) a => k0_pay61 a ((Memref.view arg14).readAt (Elt F) (Rect.unit (s := S48x8x256) (k0_off16 i k) S1x8x256.size (k0_off16_inb i k)).toLoadRect G14)) k0_pay60 (k0_t4_loop i).trips

/-- The sums that the loop over the weights leaves, -/
abbrev contL (i : grid0.Coords) (arg14 arg15 : Memref sig .tc .vmem S48x8x256 .f32) (M : FVec F S8x256 .f32) (G14 : (Memref.view arg14).ty.Contents (Elt F)) (G15 : (Memref.view arg15).ty.Contents (Elt F)) : FVec F S8x256 .f32 :=
  iter (fun (k : Fin (k0_t6_loop i).trips) a => k0_pay67 M a
      ((Memref.view arg14).readAt (Elt F) (Rect.unit (s := S48x8x256) (k0_off18 i k) S1x8x256.size (k0_off18_inb i k)).toLoadRect G14)
      ((Memref.view arg15).readAt (Elt F) (Rect.unit (s := S48x8x256) (k0_off18 i k) S1x8x256.size (k0_off18_inb i k)).toLoadRect G15)) k0_pay64 (k0_t6_loop i).trips

/-- and the weights it stores. -/
abbrev contW (i : grid0.Coords) (arg14 arg16 : Memref sig .tc .vmem S48x8x256 .f32) (M : FVec F S8x256 .f32) (G14 : (Memref.view arg14).ty.Contents (Elt F)) (f12 : (Memref.view arg16).ty.Contents (Elt F)) : (Memref.view arg16).ty.Contents (Elt F) :=
  iter (fun (k : Fin (k0_t6_loop i).trips) (g : (Memref.view arg16).ty.Contents (Elt F)) => (Memref.view arg16).writes (Elt F) g
      [⟨Rect.unit (s := S48x8x256) (k0_off18 i k) S1x8x256.size (k0_off18_inb i k),
        k0_pay66 M ((Memref.view arg14).readAt (Elt F) (Rect.unit (s := S48x8x256) (k0_off18 i k) S1x8x256.size (k0_off18_inb i k)).toLoadRect G14)⟩]) f12 (k0_t6_loop i).trips

/-- The body's last loop over the buffers as its earlier loops leave them gives the point's result. -/
theorem out_of_body (i : grid0.Coords) (arg4 : Memref sig .tc .vmem S1x1x256x128 .fp8e4m3) (arg5 : Memref sig .tc .vmem S1x1x256x4 .i8)
    (arg11 : Memref sig .tc .vmem S12288x128 .bf16) (arg12 : Memref sig .tc .vmem S48x128x256 .bf16) (arg13 : Memref sig .tc .vmem S48x32x8x256 .f32)
    (arg14 arg15 arg16 : Memref sig .tc .vmem S48x8x256 .f32) (arg17 : Memref sig .tc .vmem S48x16x256 .bf16)
    (f0 : (Memref.view arg4).ty.Contents (Elt F)) (f1 : (Memref.view arg5).ty.Contents (Elt F)) (f7 : (Memref.view arg11).ty.Contents (Elt F))
    (f8 : (Memref.view arg12).ty.Contents (Elt F)) (f9 : (Memref.view arg13).ty.Contents (Elt F)) (f10 : (Memref.view arg14).ty.Contents (Elt F))
    (f11 : (Memref.view arg15).ty.Contents (Elt F)) (f12 : (Memref.view arg16).ty.Contents (Elt F)) (f13 : (Memref.view arg17).ty.Contents (Elt F))
    (kt : ℕ → Vec F S256x128 .bf16) (vt : ℕ → Vec F S1x128x256 .bf16)
    (hk : HasKeys ((Memref.view arg11).read (Elt F) f7) kt) (hv : HasVals ((Memref.view arg12).read (Elt F) f8) vt) :
    k0_pay7 (iter (fun (k : Fin (k0_t10_loop i).trips) a => k0_pay5 a
        ((Memref.view arg13).readAt (Elt F) (Rect.unit (s := S48x32x8x256) (k0_off24 i k) S1x32x8x256.size (k0_off24_inb i k)).toLoadRect (cont13 i arg4 arg5 arg11 arg13 f0 f1 f7 f9))
        ((Memref.view arg16).readAt (Elt F) (Rect.unit (s := S48x8x256) (k0_off25 i k) S1x8x256.size (k0_off25_inb i k)).toLoadRect
          ((Memref.view arg16).writes (Elt F) (contW i arg14 arg16 (contM i arg14 (cont14 i arg4 arg5 arg11 arg14 f0 f1 f7 f10)) (cont14 i arg4 arg5 arg11 arg14 f0 f1 f7 f10) f12) (gains i arg16 (contL i arg14 arg15 (contM i arg14 (cont14 i arg4 arg5 arg11 arg14 f0 f1 f7 f10)) (cont14 i arg4 arg5 arg11 arg14 f0 f1 f7 f10) (cont15 i arg4 arg5 arg11 arg15 f0 f1 f7 f11)) (contW i arg14 arg16 (contM i arg14 (cont14 i arg4 arg5 arg11 arg14 f0 f1 f7 f10)) (cont14 i arg4 arg5 arg11 arg14 f0 f1 f7 f10) f12) (k0_t8_loop i).trips)))
        ((Memref.view arg17).readAt (Elt F) (Rect.unit (s := S48x16x256) (k0_off26 i k) S1x16x256.size (k0_off26_inb i k)).toLoadRect
          (iter (fun (k : Fin (k0_t8_loop i).trips) (g : (Memref.view arg17).ty.Contents (Elt F)) => (Memref.view arg17).writes (Elt F) g
            [⟨Rect.unit (s := S48x16x256) (k0_off21 i k) S1x16x256.size (k0_off21_inb i k),
              scaleOf (k0_pay71 (contL i arg14 arg15 (contM i arg14 (cont14 i arg4 arg5 arg11 arg14 f0 f1 f7 f10)) (cont14 i arg4 arg5 arg11 arg14 f0 f1 f7 f10) (cont15 i arg4 arg5 arg11 arg15 f0 f1 f7 f11))) ((Memref.view arg16).readAt (Elt F) (Rect.unit (s := S48x8x256) (k0_off20 i k) S1x8x256.size (k0_off20_inb i k)).toLoadRect
                ((Memref.view arg16).writes (Elt F) (contW i arg14 arg16 (contM i arg14 (cont14 i arg4 arg5 arg11 arg14 f0 f1 f7 f10)) (cont14 i arg4 arg5 arg11 arg14 f0 f1 f7 f10) f12) (gains i arg16 (contL i arg14 arg15 (contM i arg14 (cont14 i arg4 arg5 arg11 arg14 f0 f1 f7 f10)) (cont14 i arg4 arg5 arg11 arg14 f0 f1 f7 f10) (cont15 i arg4 arg5 arg11 arg15 f0 f1 f7 f11)) (contW i arg14 arg16 (contM i arg14 (cont14 i arg4 arg5 arg11 arg14 f0 f1 f7 f10)) (cont14 i arg4 arg5 arg11 arg14 f0 f1 f7 f10) f12) k.val)))⟩]) f13 (k0_t8_loop i).trips))
        ((Memref.view arg12).readAt (Elt F) (Rect.unit (s := S48x128x256) (k0_off27 i k) S1x128x256.size (k0_off27_inb i k)).toLoadRect f8))
      k0_pay4 (k0_t10_loop i).trips) = bodyOut ((Memref.view arg4).read (Elt F) f0) ((Memref.view arg5).read (Elt F) f1) kt vt (i 3).val := by
  have r_i3 : (i 3).val < 48 := (i 3).isLt
  have eq : (Memref.view arg4).readAt (Elt F) (Rect.unit (s := S1x1x256x128) ![0, 0, 0, 0] S1x1x256x128.size inb_S1x1x256x128_S1x1x256x128_0_0_0_0).toLoadRect f0
      = (Memref.view arg4).read (Elt F) f0 := View.ld_unit_zero (by decide) _ _
  have es : (Memref.view arg5).readAt (Elt F) (Rect.unit (s := S1x1x256x4) ![0, 0, 0, 0] S1x1x256x4.size inb_S1x1x256x4_S1x1x256x4_0_0_0_0).toLoadRect f1
      = (Memref.view arg5).read (Elt F) f1 := View.ld_unit_zero (by decide) _ _
  have e7 : ∀ k : Fin (k0_t2_loop i).trips, (Memref.view arg11).readAt (Elt F) (Rect.unit (s := S12288x128) (k0_off7 i k) S256x128.size (k0_off7_inb i k)).toLoadRect f7 = kt k.val :=
    fun k => hk k.val (Nat.lt_of_lt_of_le k.isLt ((k0_t2_abs i).2.1.trans (by decide))) _ _ (off_t2 i k).1
  have e13 : (Memref.view arg11).readAt (Elt F) (Rect.unit (s := S12288x128) (k0_off13 i) S256x128.size (k0_off13_inb i)).toLoadRect f7 = kt (i 3).val :=
    hk _ r_i3 _ _ (off_diag i).1
  have hlt : ∀ k : Fin (k0_t2_loop i).trips, k.val < (i 3).val := fun k => lt_of_lt_of_eq k.isLt (trips_t2 i)
  refine out_of_reads i _ _ kt vt arg12 arg13 arg14 arg15 arg16 arg17 f8 _ _ _ f12 f13 hv ?_ ?_ ?_ _ _ _ rfl rfl rfl
  · intro n hn off inb h
    refine read_slab4 i arg13 f9 _ _ (probs ((Memref.view arg4).read (Elt F) f0) ((Memref.view arg5).read (Elt F) f1) kt (i 3).val) (fun k => ?_) ?_ n hn inb h
    · rw [eq, es, e7, probs, if_pos (hlt k)]
    · rw [eq, es, e13, probs, if_neg (lt_irrefl _)]; rfl
  · intro n hn off inb h
    refine read_slab i arg14 f10 _ _ (blockMax ((Memref.view arg4).read (Elt F) f0) ((Memref.view arg5).read (Elt F) f1) kt (i 3).val) (fun k => ?_) ?_ n hn inb h
    · rw [eq, es, e7, blockMax, if_pos (hlt k)]
    · rw [eq, es, e13, blockMax, if_neg (lt_irrefl _)]; rfl
  · intro n hn off inb h
    refine read_slab i arg15 f11 _ _ (blockSum ((Memref.view arg4).read (Elt F) f0) ((Memref.view arg5).read (Elt F) f1) kt (i 3).val) (fun k => ?_) ?_ n hn inb h
    · rw [eq, es, e7, blockSum, if_pos (hlt k)]
    · rw [eq, es, e13, blockSum, if_neg (lt_irrefl _)]; rfl

/-! ## The triple -/

set_option maxHeartbeats 4000000 in
/-- The body, on whole memrefs: the six inputs stay as they are, the output block ends at `bodyOut`, the scratch buffers of keys
and values hold the head's dequantised tiles, the other scratch buffers end at some contents. -/
theorem sound_kernel (c : Dev nD) (E : Set ℕ) (i : grid0.Coords) (arg4 : Memref sig .tc .vmem S1x1x256x128 .fp8e4m3) (harg4 : arg4.IsWhole) (arg5 : Memref sig .tc .vmem S1x1x256x4 .i8) (harg5 : arg5.IsWhole) (arg6 : Memref sig .tc .vmem S1x1x12288x128 .fp8e4m3) (harg6 : arg6.IsWhole) (arg7 : Memref sig .tc .vmem S1x1x12288x4 .i8) (harg7 : arg7.IsWhole) (arg8 : Memref sig .tc .vmem S1x1x128x12288 .fp8e4m3) (harg8 : arg8.IsWhole) (arg9 : Memref sig .tc .vmem S1x1x48x128x8 .i8) (harg9 : arg9.IsWhole) (arg10 : Memref sig .tc .vmem S1x1x256x128 .bf16) (harg10 : arg10.IsWhole) (arg11 : Memref sig .tc .vmem S12288x128 .bf16) (harg11 : arg11.IsWhole) (arg12 : Memref sig .tc .vmem S48x128x256 .bf16) (harg12 : arg12.IsWhole) (arg13 : Memref sig .tc .vmem S48x32x8x256 .f32) (harg13 : arg13.IsWhole) (arg14 : Memref sig .tc .vmem S48x8x256 .f32) (harg14 : arg14.IsWhole) (arg15 : Memref sig .tc .vmem S48x8x256 .f32) (harg15 : arg15.IsWhole) (arg16 : Memref sig .tc .vmem S48x8x256 .f32) (harg16 : arg16.IsWhole) (arg17 : Memref sig .tc .vmem S48x16x256 .bf16) (harg17 : arg17.IsWhole)
    (x0 : Vec F S1x1x256x128 .fp8e4m3) (x1 : Vec F S1x1x256x4 .i8) (x2 : Vec F S1x1x12288x128 .fp8e4m3) (x3 : Vec F S1x1x12288x4 .i8) (x4 : Vec F S1x1x128x12288 .fp8e4m3) (x5 : Vec F S1x1x48x128x8 .i8) (X7 : Vec F S12288x128 .bf16) (X8 : Vec F S48x128x256 .bf16)
    (hX : ¬ k0_cond1 i = 1#1 → HasKeys X7 (keyTile x2 x3) ∧ HasVals X8 (valTile x4 x5)) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ owns (c : Thread nD τ) arg11 fullShare X7 ∗ owns (c : Thread nD τ) arg12 fullShare X8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare (bodyOut x0 x1 (keyTile x2 x3) (valTile x4 x5) (i 3).val) ∗ (∃ d, ⌜HasKeys d (keyTile x2 x3)⌝ ∗ owns (c : Thread nD τ) arg11 fullShare d) ∗ (∃ d, ⌜HasVals d (valTile x4 x5)⌝ ∗ owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_mx_attn i arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mx_attn_eq_skeleton]; unfold cc0_mx_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5 hf7 hf8
  have hz4 : (![0, 0, 0, 0] : Fin 4 → ℕ) = fun _ => 0 := by decide
  by_cases hc : k0_cond1 i = 1#1
  · sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; (iexact H6); ipureintro
      sl_unfold_words
      refine (read_whole (Memref.view arg10) _ hz4 _ _ _).trans ?_
      exact out_of_body i arg4 arg5 arg11 arg12 arg13 arg14 arg15 arg16 arg17 f0 f1 _ _ _ _ _ _ _ _ _ (hasKeys_fill i arg6 arg7 arg11 hc f2 f3 f7) (hasVals_fill i arg8 arg9 arg12 hc f4 f5 f8)
    isplitl [H7]
    · iexists _; isplitr; swap; (iexists _; isplitr; swap; (iexact H7); ipureintro; rfl)
      ipureintro; exact hasKeys_fill i arg6 arg7 arg11 hc f2 f3 f7
    isplitl [H8]
    · iexists _; isplitr; swap; (iexists _; isplitr; swap; (iexact H8); ipureintro; rfl)
      ipureintro; exact hasVals_fill i arg8 arg9 arg12 hc f4 f5 f8
    isplitl [H9]
    · iexists _; iexists _; isplitr; swap; (iexact H9); ipureintro; rfl
    isplitl [H10]
    · iexists _; iexists _; isplitr; swap; (iexact H10); ipureintro; rfl
    isplitl [H11]
    · iexists _; iexists _; isplitr; swap; (iexact H11); ipureintro; rfl
    isplitl [H12]
    · iexists _; iexists _; isplitr; swap; (iexact H12); ipureintro; rfl
    iexists _; iexists _; isplitr; swap; (iexact H13); ipureintro; rfl
  · sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; (iexact H6); ipureintro
      sl_unfold_words
      refine (read_whole (Memref.view arg10) _ hz4 _ _ _).trans ?_
      exact out_of_body i arg4 arg5 arg11 arg12 arg13 arg14 arg15 arg16 arg17 f0 f1 _ _ _ _ _ _ _ _ _ ((hX hc).1) ((hX hc).2)
    isplitl [H7]
    · iexists _; isplitr; swap; (iexists _; isplitr; swap; (iexact H7); ipureintro; rfl)
      ipureintro; exact (hX hc).1
    isplitl [H8]
    · iexists _; isplitr; swap; (iexists _; isplitr; swap; (iexact H8); ipureintro; rfl)
      ipureintro; exact (hX hc).2
    isplitl [H9]
    · iexists _; iexists _; isplitr; swap; (iexact H9); ipureintro; rfl
    isplitl [H10]
    · iexists _; iexists _; isplitr; swap; (iexact H10); ipureintro; rfl
    isplitl [H11]
    · iexists _; iexists _; isplitr; swap; (iexact H11); ipureintro; rfl
    isplitl [H12]
    · iexists _; iexists _; isplitr; swap; (iexact H12); ipureintro; rfl
    iexists _; iexists _; isplitr; swap; (iexact H13); ipureintro; rfl

end Cert.KernelIdeal.Value

end
-- ==== Proof.Entries.lean ====
/- The kernel's dequantised tiles, entry by entry, over the extended reals: each query, key and value is its code times the power of
   two that its scale byte names, the rows of a key tile and the columns of a value tile in the order of the kernel's
   transposed scores. -/
module

public import proofs.«01_k».proof.Proof.Words
public import proofs.«01_k».proof.Proof.KernelBody
public import Idealize.ShloMosaic.Lib.Pointwise

@[expose] public section

set_option maxRecDepth 16384

noncomputable section

namespace Cert.KernelIdeal.Value

open Cert.KernelIdeal Cert.KernelIdeal.Gen Cert.Words
open Idealize.ShloMosaic

/-- Row `r` of the permutation selects the key that the row stands for. -/
theorem perm_entry (r c : Fin 256) : k0_pay12 (F := Ideal) k0_pay11 (ix2 r c) = if keyOf r.val = c.val then 1 else 0 := by
  have h : k0_pay11 (ix2 r c) = IntOp.cmpi .eq (keyW (BitVec.ofNat 32 r.val)) (BitVec.ofNat 32 c.val) := by
    pointwise [k0_pay11]
    rfl
  have h2 : k0_pay12 (F := Ideal) k0_pay11 (ix2 r c) = (((BitVec.setWidth 32 (k0_pay11 (ix2 r c))).toInt : ℝ) : EReal) := rfl
  rw [h2, h, keyW_eq, cmpi_eq_ofNat (keyOf_lt r.isLt) c.isLt]
  exact bit_eq _

/-- The expansion of a row's four scales to its 128 entries, for the queries. -/
theorem expand_entry (r : Fin 4) (c : Fin 128) : k0_pay37 (F := Ideal) (ix2 r c) = if c.val / 32 = r.val then 1 else 0 := by
  have h : k0_pay37 (F := Ideal) (ix2 r c)
      = (((BitVec.setWidth 32 (IntOp.cmpi .eq (divW 32#32 (BitVec.ofNat 32 c.val)) (BitVec.ofNat 32 r.val))).toInt : ℝ) : EReal) := by
    pointwise [k0_pay37]
    rfl
  rw [h, divW32_eq, cmpi_eq_ofNat (by omega) (by omega)]
  exact bit_eq _

/-- The same expansion, for the keys. -/
theorem expand_entry' (r : Fin 4) (c : Fin 128) :
    k0_pay34 (F := Ideal) k0_pay14 k0_pay15 1#32 (ix2 r c) = if c.val / 32 = r.val then 1 else 0 := by
  have h : k0_pay34 (F := Ideal) k0_pay14 k0_pay15 1#32 (ix2 r c)
      = (((BitVec.setWidth 32 (IntOp.cmpi .eq (divW 32#32 (BitVec.ofNat 32 c.val)) (BitVec.ofNat 32 r.val))).toInt : ℝ) : EReal) := by
    pointwise [k0_pay34, k0_pay14, k0_pay15]
    rfl
  rw [h, divW32_eq, cmpi_eq_ofNat (by omega) (by omega)]
  exact bit_eq _

/-- The expansion of a value row's eight scales of one tile to its 256 entries, in the permuted order. -/
theorem expandV_entry (r : Fin 8) (c : Fin 256) : k0_pay13 (F := Ideal) (ix2 r c) = if c.val % 8 = r.val then 1 else 0 := by
  have h : k0_pay13 (F := Ideal) (ix2 r c)
      = (((BitVec.setWidth 32 (IntOp.cmpi .eq (modW 8#32 (BitVec.ofNat 32 c.val)) (BitVec.ofNat 32 r.val))).toInt : ℝ) : EReal) := by
    pointwise [k0_pay13]
    rfl
  rw [h, modW8_eq, cmpi_eq_ofNat (by omega) (by omega)]
  exact bit_eq _

/-- A scale byte is normal if it is neither zero nor all ones. -/
def Normal (b : BitVec 8) : Prop := 0 < b.toNat ∧ b.toNat < 255

/-- A sum of converted bytes against an indicator, rounded to a word and read as an exponent field, decodes the one byte. -/
theorem dec_sum {n k : ℕ} (hk : k < n) (s : Fin n → BitVec 8) (h : Normal (s ⟨k, hk⟩)) :
    Ideal.ofBits .f32 (IntOp.shli .vector (FloatOps.fptosi (F := Ideal) 32 (φ := .f32)
      (∑ x : Fin n, FloatOps.sitofp (F := Ideal) .f32 (BitVec.setWidth 32 (s x)) * (if k = x.val then (1 : EReal) else 0))) 23#32) = dec (s ⟨k, hk⟩) := by
  rw [sum_pick hk (fun x => (FloatOps.sitofp (F := Ideal) .f32 (BitVec.setWidth 32 (s x)) : EReal))]
  exact dec_kernel h.1 h.2

/-- The dequantised query tile. -/
theorem queries_entry (x0 : Vec Ideal S1x1x256x128 .fp8e4m3) (x1 : Vec Ideal S1x1x256x4 .i8) (c : Fin 256) (d : Fin 128)
    (h : Normal (x1 (ix4 0 0 c ⟨d.val / 32, by omega⟩))) :
    queries (F := Ideal) x0 x1 (ix2 c d) = (x0 (ix4 0 0 c d) : EReal) * dec (x1 (ix4 0 0 c ⟨d.val / 32, by omega⟩)) := by
  have e : queries (F := Ideal) x0 x1 (ix2 c d) = (x0 (ix4 0 0 c d) : EReal) * Ideal.ofBits .f32 (IntOp.shli .vector (FloatOps.fptosi (F := Ideal) 32 (φ := .f32)
      (∑ x : Fin 4, (k0_pay36 (F := Ideal) x1 (ix2 c x) : EReal) * k0_pay37 (F := Ideal) (ix2 x d))) 23#32) := by
    pointwise [queries, k0_pay38]
  rw [e]
  congr 1
  rw [← dec_sum (by omega) (fun x => x1 (ix4 0 0 c x)) h]
  refine congrArg (fun y => Ideal.ofBits .f32 (IntOp.shli .vector (FloatOps.fptosi (F := Ideal) 32 (φ := .f32) y) 23#32)) ?_
  refine Finset.sum_congr rfl fun x _ => ?_
  rw [expand_entry]
  congr 1
  pointwise [k0_pay36]

/-- A dequantised key tile. -/
theorem keys_entry (v : Vec Ideal S1x1x256x128 .fp8e4m3) (s : Vec Ideal S1x1x256x4 .i8) (r : Fin 256) (d : Fin 128)
    (h : Normal (s (ix4 0 0 ⟨keyOf r.val, keyOf_lt r.isLt⟩ ⟨d.val / 32, by omega⟩))) :
    k0_pay8 (F := Ideal) (k0_pay12 k0_pay11) (k0_pay34 k0_pay14 k0_pay15 1#32) v s (ix2 r d)
      = (v (ix4 0 0 ⟨keyOf r.val, keyOf_lt r.isLt⟩ d) : EReal) * dec (s (ix4 0 0 ⟨keyOf r.val, keyOf_lt r.isLt⟩ ⟨d.val / 32, by omega⟩)) := by
  have e : ∀ (p : FVec Ideal S256x256 .bf16) (q : FVec Ideal S4x128 .bf16), k0_pay8 (F := Ideal) p q v s (ix2 r d)
      = ∑ x : Fin 256, (p (ix2 r x) : EReal) * ((v (ix4 0 0 x d) : EReal) * Ideal.ofBits .f32 (IntOp.shli .vector (FloatOps.fptosi (F := Ideal) 32 (φ := .f32)
      (∑ y : Fin 4, (FloatOps.sitofp (F := Ideal) .f32 (BitVec.setWidth 32 (s (ix4 0 0 x y))) : EReal) * q (ix2 y d))) 23#32)) := by
    intro p q
    pointwise [k0_pay8]
  rw [e]
  simp only [perm_entry, expand_entry']
  rw [sum_pick' (keyOf_lt r.isLt)]
  congr 1
  exact dec_sum (by omega) (fun x => s (ix4 0 0 ⟨keyOf r.val, keyOf_lt r.isLt⟩ x)) h

/-- A dequantised value tile. -/
theorem vals_entry (v : Vec Ideal S1x1x128x256 .fp8e4m3) (s : Vec Ideal S1x1x1x128x8 .i8) (d : Fin 128) (r : Fin 256)
    (h : Normal (s (ix5 0 0 0 d ⟨r.val % 8, by omega⟩))) :
    k0_pay35 (F := Ideal) k0_pay13 (k0_pay9 (k0_pay12 k0_pay11) v) (k0_pay10 (F := Ideal) s) (ix3 0 d r)
      = (v (ix4 0 0 d ⟨keyOf r.val, keyOf_lt r.isLt⟩) : EReal) * dec (s (ix5 0 0 0 d ⟨r.val % 8, by omega⟩)) := by
  have e : ∀ (p : FVec Ideal S8x256 .bf16) (q : FVec Ideal S128x256 .f32) (t : IVec S128x8 8), k0_pay35 (F := Ideal) p q t (ix3 0 d r)
      = (q (ix2 d r) : EReal) * Ideal.ofBits .f32 (IntOp.shli .vector (FloatOps.fptosi (F := Ideal) 32 (φ := .f32)
      (∑ y : Fin 8, (FloatOps.sitofp (F := Ideal) .f32 (BitVec.setWidth 32 (t (ix2 d y))) : EReal) * p (ix2 y r))) 23#32) := by
    intro p q t
    pointwise [k0_pay35]
  have e9 : ∀ (p : FVec Ideal S256x256 .bf16), k0_pay9 (F := Ideal) p v (ix2 d r) = ∑ x : Fin 256, (v (ix4 0 0 d x) : EReal) * p (ix2 r x) := by
    intro p
    pointwise [k0_pay9]
  have e10 : ∀ y : Fin 8, k0_pay10 (F := Ideal) s (ix2 d y) = s (ix5 0 0 0 d y) := by
    intro y
    pointwise [k0_pay10]
  rw [e, e9]
  simp only [perm_entry, expandV_entry, e10]
  rw [sum_pick (keyOf_lt r.isLt)]
  congr 1
  exact dec_sum (by omega) (fun x => s (ix5 0 0 0 d x)) h

end Cert.KernelIdeal.Value

end
-- ==== Proof.Row.lean ====
/- One row of attention weights over the extended reals. The weight of a key is the exponential of its scaled score less the
   greatest, as a real number that is zero where the difference has no meaning. The kernel's way to the row, block by block
   with exponentials relative to the block's greatest score and a quantisation of each block by a power of two, and the plain
   way, softmax and then quantisation, both come to the weight over the sum of the weights. -/
module

public import proofs.«01_k».proof.Proof.Words

@[expose] public section

noncomputable section

namespace Cert.Row

open Idealize.ShloMosaic Cert.Words

/-- The scale of the scores: one over the root of the head's width. -/
def scl : ℝ := (Real.sqrt 128)⁻¹

/-- The same for exponentials to base two. -/
def scl2 : ℝ := (Real.sqrt 128)⁻¹ * (Real.log 2)⁻¹

theorem scl_pos : 0 < scl := inv_pos.mpr (Real.sqrt_pos.mpr (by norm_num))
theorem scl2_pos : 0 < scl2 := mul_pos scl_pos (inv_pos.mpr (Real.log_pos (by norm_num)))

/-- The weight of score `x` against score `m`: the exponential of the scaled difference, zero if either is infinite. -/
def ew (x m : EReal) : ℝ := if x = ⊥ ∨ x = ⊤ ∨ m = ⊥ ∨ m = ⊤ then 0 else Real.exp ((x.toReal - m.toReal) * scl)

theorem ew_coe (x m : ℝ) : ew x m = Real.exp ((x - m) * scl) := by
  unfold ew
  rw [if_neg (by simp), EReal.toReal_coe, EReal.toReal_coe]

theorem ew_bot_left (m : EReal) : ew ⊥ m = 0 := if_pos (Or.inl rfl)
theorem ew_top_left (m : EReal) : ew ⊤ m = 0 := if_pos (Or.inr (Or.inl rfl))
theorem ew_bot_right (x : EReal) : ew x ⊥ = 0 := if_pos (Or.inr (Or.inr (Or.inl rfl)))
theorem ew_top_right (x : EReal) : ew x ⊤ = 0 := if_pos (Or.inr (Or.inr (Or.inr rfl)))

theorem ew_nonneg (x m : EReal) : 0 ≤ ew x m := by
  unfold ew; split_ifs
  · exact le_rfl
  · exact (Real.exp_pos _).le

theorem ew_le_one {x m : EReal} (h : x ≤ m) : ew x m ≤ 1 := by
  induction x with
  | bot => rw [ew_bot_left]; norm_num
  | top => rw [ew_top_left]; norm_num
  | coe x =>
    induction m with
    | bot => rw [ew_bot_right]; norm_num
    | top => rw [ew_top_right]; norm_num
    | coe m =>
      rw [ew_coe]
      have := EReal.coe_le_coe_iff.mp h
      exact Real.exp_le_one_iff.mpr (mul_nonpos_of_nonpos_of_nonneg (by linarith) scl_pos.le)

/-- Weights chain: against a bound, and the bound against the greatest. -/
theorem ew_mul {x b m : EReal} (h1 : x ≤ b) (h2 : b ≤ m) : ew x b * ew b m = ew x m := by
  induction x with
  | bot => rw [ew_bot_left, ew_bot_left, zero_mul]
  | top => rw [ew_top_left, ew_top_left, zero_mul]
  | coe x =>
    induction b with
    | bot => exact absurd h1 (by simp)
    | top => rw [top_le_iff.mp h2, ew_top_right, ew_top_right, mul_zero]
    | coe b =>
      induction m with
      | bot => exact absurd h2 (by simp)
      | top => rw [ew_top_right, ew_top_right, mul_zero]
      | coe m =>
        rw [ew_coe, ew_coe, ew_coe, ← Real.exp_add]
        congr 1
        ring

/-- The exponential to base two of a scaled difference of scores. -/
theorem exp2_ew {x m : EReal} (h : x ≤ m) : Ideal.exp2 ((x - m) * (scl2 : EReal)) = (ew x m : EReal) := by
  have hbot : Ideal.exp2 ((⊥ : EReal) * (scl2 : EReal)) = ((0 : ℝ) : EReal) := by
    rw [EReal.bot_mul_coe_of_pos scl2_pos]; rfl
  induction x with
  | bot => rw [ew_bot_left, sub_eq_add_neg, EReal.bot_add, hbot]
  | top => rw [ew_top_left, top_le_iff.mp h, sub_eq_add_neg, EReal.neg_top, EReal.add_bot, hbot]
  | coe x =>
    induction m with
    | bot => exact absurd h (by simp)
    | top => rw [ew_top_right, sub_eq_add_neg, EReal.neg_top, EReal.add_bot, hbot]
    | coe m =>
      rw [ew_coe, ← EReal.coe_sub, ← EReal.coe_mul]
      show ((Real.rpow 2 ((x - m) * scl2) : ℝ) : EReal) = _
      refine congrArg (fun r : ℝ => (r : EReal)) ?_
      show (2 : ℝ) ^ ((x - m) * scl2) = _
      rw [Real.rpow_def_of_pos (by norm_num)]
      congr 1
      have : Real.log 2 ≠ 0 := (Real.log_pos (by norm_num)).ne'
      unfold scl2 scl
      field_simp

/-- The exponential of a difference of scaled scores. -/
theorem exp_ew {x m : EReal} (h : x ≤ m) : Ideal.exp (x * (scl : EReal) - m * (scl : EReal)) = (ew x m : EReal) := by
  have hbot : Ideal.exp (⊥ : EReal) = ((0 : ℝ) : EReal) := rfl
  induction x with
  | bot => rw [ew_bot_left, EReal.bot_mul_coe_of_pos scl_pos, sub_eq_add_neg, EReal.bot_add, hbot]
  | top => rw [ew_top_left, top_le_iff.mp h, EReal.top_mul_coe_of_pos scl_pos, sub_eq_add_neg, EReal.neg_top, EReal.add_bot, hbot]
  | coe x =>
    induction m with
    | bot => exact absurd h (by simp)
    | top => rw [ew_top_right, EReal.top_mul_coe_of_pos scl_pos, sub_eq_add_neg, EReal.neg_top, EReal.add_bot, hbot]
    | coe m =>
      rw [ew_coe, ← EReal.coe_mul, ← EReal.coe_mul, ← EReal.coe_sub, ← sub_mul]
      rfl

/-- Scaling commutes with the greatest of finitely many scores. -/
theorem sup_scl {ι : Type} (s : Finset ι) (u : ι → EReal) : s.sup (fun k => u k * (scl : EReal)) = s.sup u * (scl : EReal) := by
  refine (Finset.comp_sup_eq_sup_comp (fun x : EReal => x * (scl : EReal)) ?_ ?_).symm
  · intro x y
    exact (show Monotone (fun x : EReal => x * (scl : EReal)) from fun a b h =>
      mul_le_mul_of_nonneg_right h (EReal.coe_nonneg.mpr scl_pos.le)).map_max
  · exact EReal.bot_mul_coe_of_pos scl_pos

theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-! ## The kernel's row -/

section Kernel

variable (U : ℕ → Fin 8 → Fin 32 → EReal) (N : ℕ)

/-- The greatest score of block `j` of tile `n`. -/
def bm (n : ℕ) (j : Fin 8) : EReal := Finset.univ.sup (U n j)

/-- The greatest of the first `N` tiles, per block number. -/
def rm (j : Fin 8) : EReal := (Finset.range N).sup fun n => bm U n j

/-- The greatest score of the row. -/
def top : EReal := Finset.univ.sup (rm U N)

/-- The exponentials relative to the block. -/
def pr (n : ℕ) (j : Fin 8) (a : Fin 32) : EReal := Ideal.exp2 ((U n j a - bm U n j) * (scl2 : EReal))

/-- The block's exponential relative to the row. -/
def wt (n : ℕ) (j : Fin 8) : EReal := Ideal.exp2 ((bm U n j - top U N) * (scl2 : EReal))

/-- The weighted sums of the blocks. -/
def rs (j : Fin 8) : EReal := ∑ n ∈ Finset.range N, wt U N n j * ∑ a, pr U n j a

/-- One over the sum of the row. -/
def rl : EReal := Ideal.div 1 (∑ j, rs U N j)

/-- The entry of the quantised row. -/
def entry (n : ℕ) (j : Fin 8) (a : Fin 32) : EReal :=
  pr U n j a * gainQ (wt U N n j * rl U N) * scaleQ (wt U N n j * rl U N)

/-- The sum of the row's weights. -/
def total : ℝ := ∑ n ∈ Finset.range N, ∑ j : Fin 8, ∑ a : Fin 32, ew (U n j a) (top U N)

theorem le_bm (n : ℕ) (j : Fin 8) (a : Fin 32) : U n j a ≤ bm U n j := Finset.le_sup (f := U n j) (Finset.mem_univ a)

theorem bm_le {n : ℕ} (hn : n < N) (j : Fin 8) : bm U n j ≤ top U N :=
  (Finset.le_sup (f := fun n => bm U n j) (Finset.mem_range.mpr hn)).trans (Finset.le_sup (f := rm U N) (Finset.mem_univ j))

theorem pr_eq (n : ℕ) (j : Fin 8) (a : Fin 32) : pr U n j a = (ew (U n j a) (bm U n j) : EReal) := exp2_ew (le_bm U n j a)

theorem wt_eq {n : ℕ} (hn : n < N) (j : Fin 8) : wt U N n j = (ew (bm U n j) (top U N) : EReal) := exp2_ew (bm_le U N hn j)

theorem rs_eq (j : Fin 8) : rs U N j = ((∑ n ∈ Finset.range N, ∑ a : Fin 32, ew (U n j a) (top U N) : ℝ) : EReal) := by
  unfold rs
  rw [← coe_sum]
  refine Finset.sum_congr rfl fun n hn => ?_
  have hn' := Finset.mem_range.mp hn
  rw [wt_eq U N hn']
  simp only [pr_eq]
  rw [coe_sum, ← EReal.coe_mul, Finset.mul_sum]
  refine congrArg (fun r : ℝ => (r : EReal)) (Finset.sum_congr rfl fun a _ => ?_)
  rw [mul_comm, ew_mul (le_bm U n j a) (bm_le U N hn' j)]

theorem sum_rs : ∑ j, rs U N j = (total U N : EReal) := by
  simp only [rs_eq]
  rw [coe_sum]
  unfold total
  rw [Finset.sum_comm]

theorem total_nonneg : 0 ≤ total U N :=
  Finset.sum_nonneg fun _ _ => Finset.sum_nonneg fun _ _ => Finset.sum_nonneg fun _ _ => ew_nonneg _ _

/-- The weight of a block's greatest score is one term of the row's sum, or zero. -/
theorem ew_bm_le {n : ℕ} (hn : n < N) (j : Fin 8) : ew (bm U n j) (top U N) ≤ total U N := by
  obtain ⟨a, -, ha⟩ := Finset.exists_mem_eq_sup (Finset.univ : Finset (Fin 32)) Finset.univ_nonempty (U n j)
  have e : bm U n j = U n j a := ha
  rw [e]
  refine (Finset.single_le_sum (f := fun a => ew (U n j a) (top U N)) (fun _ _ => ew_nonneg _ _) (Finset.mem_univ a)).trans ?_
  refine (Finset.single_le_sum (f := fun j => ∑ a, ew (U n j a) (top U N)) (fun _ _ => Finset.sum_nonneg fun _ _ => ew_nonneg _ _) (Finset.mem_univ j)).trans ?_
  exact Finset.single_le_sum (f := fun n => ∑ j, ∑ a, ew (U n j a) (top U N))
    (fun _ _ => Finset.sum_nonneg fun _ _ => Finset.sum_nonneg fun _ _ => ew_nonneg _ _) (Finset.mem_range.mpr hn)

/-- The kernel's entry is the weight over the sum of the weights. -/
theorem entry_eq {n : ℕ} (hn : n < N) (j : Fin 8) (a : Fin 32) :
    entry U N n j a = ((ew (U n j a) (top U N) / total U N : ℝ) : EReal) := by
  have hw := ew_bm_le U N hn j
  have hw0 := ew_nonneg (bm U n j) (top U N)
  have key : wt U N n j * rl U N = ((ew (bm U n j) (top U N) / total U N : ℝ) : EReal) := by
    unfold rl
    rw [sum_rs, wt_eq U N hn]
    by_cases hz : total U N = 0
    · have : ew (bm U n j) (top U N) = 0 := le_antisymm (hw.trans_eq hz) hw0
      rw [this, zero_div, EReal.coe_zero, zero_mul]
    · rw [Ideal.div_coe hz, one_mul, ← EReal.coe_mul, mul_one_div]
  unfold entry
  rw [key, pr_eq, gain_scale (div_nonneg hw0 (total_nonneg U N)) (div_le_one_of_le₀ hw (total_nonneg U N))]
  refine congrArg (fun r : ℝ => (r : EReal)) ?_
  rw [← mul_div_assoc, ew_mul (le_bm U n j a) (bm_le U N hn j)]

end Kernel

/-! ## The plain row -/

section Plain

/-- The exponent of a block's scale: zero for a block of zeros, else the floor of the logarithm to base two, plus one. -/
def expo (a : EReal) : EReal :=
  Scalar.select (Ideal.cmp .oeq a 0) 0
    (Ideal.liftRound Int.floor (Ideal.log (a * ((1 / 448 : ℝ) : EReal)) * (((Real.log 2)⁻¹ : ℝ) : EReal)) + 1)

/-- A quantised entry of a block with greatest magnitude `a`: the code times the scale. -/
def quant (p a : EReal) : EReal :=
  min ((448 : ℝ) : EReal) (max ((-448 : ℝ) : EReal) (p * Ideal.exp2 (0 - expo a))) * Ideal.exp2 (expo a)

theorem exp2_int (e : ℤ) : Ideal.exp2 ((e : ℝ) : EReal) = (((2 : ℝ) ^ e : ℝ) : EReal) := by
  show ((Real.rpow 2 e : ℝ) : EReal) = _
  exact congrArg (fun r : ℝ => (r : EReal)) (Real.rpow_intCast 2 e)

/-- Quantising keeps a number of a block whose greatest is `a`. -/
theorem quant_eq {p a : ℝ} (h0 : 0 ≤ p) (h1 : p ≤ a) : quant p a = (p : EReal) := by
  obtain rfl | ha := (h0.trans h1).eq_or_lt
  · have hp : p = 0 := le_antisymm h1 h0
    subst hp
    have he : expo ((0 : ℝ) : EReal) = 0 := by
      unfold expo
      rw [show Ideal.cmp .oeq ((0 : ℝ) : EReal) 0 = 1#1 by simp [Ideal.cmp]]
      rfl
    unfold quant
    rw [he, EReal.coe_zero, zero_mul, max_eq_right (by rw [← EReal.coe_zero]; exact EReal.coe_le_coe_iff.mpr (by norm_num)),
      min_eq_right (by rw [← EReal.coe_zero]; exact EReal.coe_le_coe_iff.mpr (by norm_num)), zero_mul]
  · have hx : 0 < a * (1 / 448) := by positivity
    have he : expo (a : EReal) = (((⌊Real.log (a * (1 / 448)) * (Real.log 2)⁻¹⌋ + 1 : ℤ) : ℝ) : EReal) := by
      unfold expo
      rw [show Ideal.cmp .oeq (a : EReal) 0 = 0#1 by simp [Ideal.cmp, ha.ne'], ← EReal.coe_mul, Ideal.log_coe, if_neg (not_le.mpr hx), ← EReal.coe_mul]
      show ((⌊Real.log (a * (1 / 448)) * (Real.log 2)⁻¹⌋ : ℝ) : EReal) + 1 = _
      push_cast
      rfl
    set f : ℤ := ⌊Real.log (a * (1 / 448)) * (Real.log 2)⁻¹⌋ with hf
    have hlt : a * (1 / 448) < (2 : ℝ) ^ (f + 1) := by
      have h2 : Real.log (a * (1 / 448)) * (Real.log 2)⁻¹ < f + 1 := Int.lt_floor_add_one _
      have hl : 0 < Real.log 2 := Real.log_pos (by norm_num)
      have h3 : Real.log (a * (1 / 448)) < (f + 1) * Real.log 2 := by
        rwa [← div_eq_mul_inv, div_lt_iff₀ hl] at h2
      rw [← Real.log_lt_log_iff hx (by positivity), Real.log_zpow]
      push_cast
      exact h3
    have hpos : (0 : ℝ) < (2 : ℝ) ^ (f + 1) := by positivity
    have hm : (2 : ℝ) ^ (-(f + 1)) * (2 : ℝ) ^ (f + 1) = 1 := by rw [← zpow_add₀ (by norm_num)]; norm_num
    have hc : p * (2 : ℝ) ^ (-(f + 1)) ≤ 448 := by
      have hq : (0 : ℝ) < (2 : ℝ) ^ (-(f + 1)) := by positivity
      nlinarith
    have hc0 : 0 ≤ p * (2 : ℝ) ^ (-(f + 1)) := by positivity
    unfold quant
    rw [he, zero_sub, ← EReal.coe_neg, ← Int.cast_neg, exp2_int, exp2_int, ← EReal.coe_mul,
      max_eq_right (EReal.coe_le_coe_iff.mpr (by linarith)), min_eq_right (EReal.coe_le_coe_iff.mpr hc), ← EReal.coe_mul, mul_assoc, hm, mul_one]

/-- A row without a finite greatest score quantises to zero. -/
theorem quant_bot : quant ⊥ ⊤ = 0 := by
  have he : expo ⊤ = ⊤ := by
    unfold expo
    rw [show Ideal.cmp .oeq (⊤ : EReal) 0 = 0#1 by simp [Ideal.cmp], EReal.top_mul_coe_of_pos (by norm_num), Ideal.log_top,
      EReal.top_mul_coe_of_pos (inv_pos.mpr (Real.log_pos (by norm_num)))]
    show (⊤ : EReal) + 1 = ⊤
    exact EReal.top_add_of_ne_bot (by decide)
  unfold quant
  rw [he, zero_sub, EReal.neg_top, show Ideal.exp2 ⊥ = 0 from rfl, mul_zero,
    max_eq_right (by rw [← EReal.coe_zero]; exact EReal.coe_le_coe_iff.mpr (by norm_num)),
    min_eq_right (by rw [← EReal.coe_zero]; exact EReal.coe_le_coe_iff.mpr (by norm_num)), zero_mul]

variable {ι : Type} [Fintype ι] [Nonempty ι] (u : ι → EReal)

/-- The greatest score of the row. -/
def best : EReal := Finset.univ.sup u

/-- The softmax of scaled scores. -/
def soft (k : ι) : EReal :=
  Ideal.div (Ideal.exp (u k * (scl : EReal) - Finset.univ.sup (fun k => u k * (scl : EReal))))
    (∑ k', Ideal.exp (u k' * (scl : EReal) - Finset.univ.sup (fun k => u k * (scl : EReal))))

theorem le_best (k : ι) : u k ≤ best u := Finset.le_sup (f := u) (Finset.mem_univ k)

omit [Nonempty ι] in
theorem exp_eq (k : ι) : Ideal.exp (u k * (scl : EReal) - Finset.univ.sup (fun k => u k * (scl : EReal))) = (ew (u k) (best u) : EReal) := by
  rw [sup_scl]
  exact exp_ew (Finset.le_sup (f := u) (Finset.mem_univ k))

omit [Nonempty ι] in
theorem soft_eq (k : ι) : soft u k = Ideal.div (ew (u k) (best u) : EReal) ((∑ k', ew (u k') (best u) : ℝ) : EReal) := by
  unfold soft
  simp only [exp_eq]
  rw [coe_sum]

omit [Nonempty ι] in
/-- The quantised softmax of a block of keys is the weights over their sum. -/
theorem quant_soft {β : Type} [Fintype β] [Nonempty β] (f : β → ι) (b : β) :
    quant (soft u (f b)) (Finset.univ.sup fun b' => max (soft u (f b')) (-soft u (f b'))) = ((ew (u (f b)) (best u) / ∑ k', ew (u k') (best u) : ℝ) : EReal) := by
  have hs0 : 0 ≤ ∑ k', ew (u k') (best u) := Finset.sum_nonneg fun _ _ => ew_nonneg _ _
  by_cases hz : ∑ k', ew (u k') (best u) = 0
  · have hk : ∀ k, ew (u k) (best u) = 0 := fun k => (Finset.sum_eq_zero_iff_of_nonneg fun _ _ => ew_nonneg _ _).mp hz k (Finset.mem_univ k)
    have hp : ∀ k, soft u k = ⊥ := by
      intro k
      rw [soft_eq, hk, hz]
      simp [Ideal.div]
    simp only [hp]
    rw [hk, zero_div]
    rw [show (fun _ : β => max (⊥ : EReal) (-⊥)) = fun _ => ⊤ by funext _; simp, Finset.sup_const Finset.univ_nonempty, quant_bot]
    rfl
  · have hp : ∀ k, soft u k = ((ew (u k) (best u) / ∑ k', ew (u k') (best u) : ℝ) : EReal) := by
      intro k
      rw [soft_eq, Ideal.div_coe hz, ← EReal.coe_mul, mul_one_div]
    have hn : ∀ k, 0 ≤ ew (u k) (best u) / ∑ k', ew (u k') (best u) := fun k => div_nonneg (ew_nonneg _ _) hs0
    have hm : ∀ k, max (soft u k) (-soft u k) = soft u k := by
      intro k
      rw [hp, ← EReal.coe_neg]
      exact max_eq_left (EReal.coe_le_coe_iff.mpr (by linarith [hn k]))
    simp only [hm]
    obtain ⟨b', -, hb'⟩ := Finset.exists_mem_eq_sup (Finset.univ : Finset β) Finset.univ_nonempty (fun b => soft u (f b))
    have hle : soft u (f b) ≤ soft u (f b') := hb' ▸ Finset.le_sup (f := fun b => soft u (f b)) (Finset.mem_univ b)
    rw [hb']
    rw [hp, hp] at hle ⊢
    exact quant_eq (hn _) (EReal.coe_le_coe_iff.mp hle)

end Plain

end Cert.Row

end
-- ==== Proof.KernelEntries.lean ====
/- The kernel's tiles of weights and its result block, entry by entry, over the extended reals: the scores of a query against the
   permuted keys, the greatest of each block, the exponentials, the block weights, the quantisation and the sum over the tiles. -/
module

public import proofs.«01_k».proof.Proof.Entries
public import proofs.«01_k».proof.Proof.Row

@[expose] public section

set_option maxRecDepth 16384

noncomputable section

namespace Cert.KernelIdeal.Value

open Cert.KernelIdeal Cert.KernelIdeal.Gen Cert.Words
open Idealize.ShloMosaic

/-! ## The search for the exponent -/

/-- The search's first three bits. -/
theorem search_first (v153 : FVec Ideal S1x256 .f32) (v175 : Vec Ideal S1x8x256 .f32) (i : S8x256.Idx) :
    k0_pay18 v153 v175 i = pick (k0_pay17 v153 v175 i) 32#32 (pick (k0_pay17 v153 v175 i) 64#32 (pick (k0_pay17 v153 v175 i) 128#32 0#32)) := by
  unfold k0_pay18
  generalize k0_pay17 v153 v175 = y
  generalize (0#32 : BitVec 32) = z
  rfl

/-- Its fourth. -/
theorem search_bit (v153 : FVec Ideal S1x256 .f32) (v175 : Vec Ideal S1x8x256 .f32) (i : S8x256.Idx) :
    Scalar.select (k0_pay19 v153 v175 i) (k0_pay20 v153 v175 i) (k0_pay18 v153 v175 i) = pick (k0_pay17 v153 v175 i) 16#32 (k0_pay18 v153 v175 i) := by
  rfl

/-- Its last four, shifted into the exponent field. -/
theorem search_rest (v180 : FVec Ideal S8x256 .f32) (v208 : IVec S8x256 32) (v214 : IVec S8x256 1) (v216 : IVec S8x256 32) (i : S8x256.Idx) :
    k0_pay21 (F := Ideal) v180 v208 v214 v216 i = IntOp.shli .vector (pick (v180 i) 1#32 (pick (v180 i) 2#32 (pick (v180 i) 4#32 (pick (v180 i) 8#32
      (Scalar.select (v214 i) (v216 i) (v208 i)))))) 23#32 := by
  rfl

/-- The eight together. -/
theorem search_all (v153 : FVec Ideal S1x256 .f32) (v175 : Vec Ideal S1x8x256 .f32) (i : S8x256.Idx) :
    k0_pay21 (F := Ideal) (k0_pay17 v153 v175) (k0_pay18 v153 v175) (k0_pay19 v153 v175) (k0_pay20 v153 v175) i
      = IntOp.shli .vector (search (k0_pay17 v153 v175 i)) 23#32 := by
  rw [search_rest, search_bit, search_first]
  rfl

/-! ## Constants -/

theorem scale_const : (Named.named (F := Ideal) κ "scale_log2e" (φ := .f32) 0x3E0293EE#32 : EReal) = (Row.scl2 : EReal) := rfl
theorem masked_const : (Named.named (F := Ideal) κ "masked" (φ := .f32) 0xF149F2CA#32 : EReal) = ⊥ := rfl
theorem fp8_const : (Named.named (F := Ideal) κ "inv_fp8_max" (φ := .f32) 0x3B124925#32 : EReal) = ((1 / 448 : ℝ) : EReal) := rfl
theorem neg_inf : Ideal.ofBits .f32 (0xFF800000#32) = ⊥ := by
  show Ideal.ieee 8 23 (0xFF800000#32) = _
  unfold Ideal.ieee
  dsimp only
  simp

/-! ## The quantisation -/

theorem min_at (a b : FVec Ideal S8x256 .f32) (i : S8x256.Idx) : minimumf a b i = min (a i : EReal) (b i) := rfl
theorem mul_at (a b : FVec Ideal S8x256 .f32) (i : S8x256.Idx) : mulf a b i = (a i : EReal) * b i := rfl
theorem word_at (w : IVec S8x256 32) (i : S8x256.Idx) : bitcastToFloat (F := Ideal) .f32 w i = Ideal.ofBits .f32 (w i) := rfl
theorem subi_at (a b : IVec S8x256 32) (i : S8x256.Idx) : subi a b i = IntOp.subi (a i) (b i) := rfl
theorem select_at (p : IVec S8x256 1) (a b : IVec S8x256 32) (i : S8x256.Idx) : select p a b i = Scalar.select (p i) (a i) (b i) := rfl
theorem splat_at (z : BitVec 32) (i : S8x256.Idx) : (broadcast S8x256 z : IVec S8x256 32) i = z := rfl
theorem splatf_at (z : Ideal .f32) (i : S8x256.Idx) : (broadcast S8x256 z : FVec Ideal S8x256 .f32) i = z := rfl
theorem ofBits_at (b : BitVec 32) : (Scalar.ofBits (F := Ideal) .f32 b : EReal) = Ideal.ofBits .f32 b := rfl
theorem cast_at (x : FVec Ideal S8x256 .f32) (j : Fin 8) (c : Fin 256) : shapeCast S1x8x256 x shapeCasts_S8x256_S1x8x256 (ix3 0 j c) = x (ix2 j c) := by
  pointwise []

theorem gain_word (v178 : FVec Ideal S8x256 .f32) (v257 : IVec S8x256 1) (v259 v260 : IVec S8x256 32) (j : Fin 8) (c : Fin 256) :
    k0_pay73 (F := Ideal) v178 v257 v259 v260 (ix3 0 j c)
      = min ((v178 (ix2 j c) : EReal) * Ideal.ofBits .f32 (IntOp.subi 2130706432#32 (Scalar.select (v257 (ix2 j c)) (v260 (ix2 j c)) (v259 (ix2 j c)))))
          (Ideal.ofBits .f32 1138753536#32) := by
  unfold k0_pay73 k0_pay72
  dsimp only
  rw [cast_at, min_at, mul_at, word_at, subi_at, select_at, splat_at, splatf_at, ofBits_at]

theorem scale_word (v257 : IVec S8x256 1) (v259 v260 : IVec S8x256 32) (j : Fin 16) (c : Fin 256) :
    k0_pay74 (F := Ideal) v257 v259 v260 (ix3 0 j c)
      = Ideal.ofBits .f32 (Scalar.select (v257 (ix2 ⟨j.val % 8, by omega⟩ c)) (v260 (ix2 ⟨j.val % 8, by omega⟩ c)) (v259 (ix2 ⟨j.val % 8, by omega⟩ c))) := by
  pointwise [k0_pay74, k0_pay72]
  split
  · rename_i h
    have e : (⟨j.val % 8, by omega⟩ : Fin 8) = ⟨j.val, h⟩ := Fin.ext (Nat.mod_eq_of_lt h)
    rw [e]
  · rename_i h
    have e : (⟨j.val % 8, by omega⟩ : Fin 8) = ⟨j.val - 8, by omega⟩ := Fin.ext (by dsimp only; omega)
    rw [e]

theorem arg_entry (v153 : FVec Ideal S1x256 .f32) (x : Vec Ideal S1x8x256 .f32) (j : Fin 8) (c : Fin 256) :
    k0_pay16 (F := Ideal) v153 x (ix2 j c) = (x (ix3 0 j c) : EReal) * v153 (ix2 0 c) := by
  pointwise [k0_pay16]

theorem arg_entry' (v153 : FVec Ideal S1x256 .f32) (x : Vec Ideal S1x8x256 .f32) (j : Fin 8) (c : Fin 256) :
    k0_pay17 (F := Ideal) v153 x (ix2 j c) = (x (ix3 0 j c) : EReal) * v153 (ix2 0 c) * ((1 / 448 : ℝ) : EReal) := by
  have h : k0_pay17 (F := Ideal) v153 x (ix2 j c) = (k0_pay16 (F := Ideal) v153 x (ix2 j c) : EReal) * ((1 / 448 : ℝ) : EReal) := rfl
  rw [h, arg_entry]

/-- The word of the scale of a block. -/
theorem word_entry (v153 : FVec Ideal S1x256 .f32) (x : Vec Ideal S1x8x256 .f32) (j : Fin 8) (c : Fin 256) :
    Scalar.select (k0_pay22 (F := Ideal) (k0_pay17 v153 x) (k0_pay18 v153 x) (k0_pay19 v153 x) (k0_pay20 v153 x) (ix2 j c)) (k0_pay24 (ix2 j c))
        (k0_pay23 (F := Ideal) (k0_pay17 v153 x) (k0_pay18 v153 x) (k0_pay19 v153 x) (k0_pay20 v153 x) (ix2 j c))
      = scaleWord ((x (ix3 0 j c) : EReal) * v153 (ix2 0 c) * ((1 / 448 : ℝ) : EReal)) := by
  have h22 : ∀ (a : FVec Ideal S8x256 .f32) (b : IVec S8x256 32) (p : IVec S8x256 1) (q : IVec S8x256 32) (i : S8x256.Idx),
      k0_pay22 (F := Ideal) a b p q i = IntOp.cmpi .eq (k0_pay21 (F := Ideal) a b p q i) 0#32 := fun _ _ _ _ _ => rfl
  have h23 : ∀ (a : FVec Ideal S8x256 .f32) (b : IVec S8x256 32) (p : IVec S8x256 1) (q : IVec S8x256 32) (i : S8x256.Idx),
      k0_pay23 (F := Ideal) a b p q i = IntOp.addi (k0_pay21 (F := Ideal) a b p q i) 8388608#32 := fun _ _ _ _ _ => rfl
  have h24 : ∀ i, k0_pay24 i = 1065353216#32 := fun _ => rfl
  rw [h22, h23, h24, search_all, arg_entry']
  rfl

/-- The gain of a block: its weight over its scale. -/
theorem gain_entry (v153 : FVec Ideal S1x256 .f32) (x : Vec Ideal S1x8x256 .f32) (j : Fin 8) (c : Fin 256) :
    gainOf (F := Ideal) v153 x (ix3 0 j c) = gainQ ((x (ix3 0 j c) : EReal) * v153 (ix2 0 c)) := by
  unfold gainOf
  rw [gain_word, word_entry, arg_entry]
  rfl

/-- The scale of a block, kept twice. -/
theorem scale_entry (v153 : FVec Ideal S1x256 .f32) (x : Vec Ideal S1x8x256 .f32) (j : Fin 16) (c : Fin 256) :
    scaleOf (F := Ideal) v153 x (ix3 0 j c) = scaleQ ((x (ix3 0 ⟨j.val % 8, by omega⟩ c) : EReal) * v153 (ix2 0 c)) := by
  unfold scaleOf
  rw [scale_word, word_entry]
  rfl

/-! ## The scores of a tile -/

/-- The score of the key in row `r` of a tile with query `c`. -/
def sc (K Q : FVec Ideal S256x128 .bf16) (r c : Fin 256) : EReal := ∑ x : Fin 128, (K (ix2 r x) : EReal) * Q (ix2 c x)

theorem free_scores (v9 : FVec Ideal S256x4 .bf16) (v39 : FVec Ideal S4x128 .bf16) (cst : FVec Ideal S256x128 .f32) (v45 : Vec Ideal S1x1x256x128 .fp8e4m3)
    (K : Vec Ideal S256x128 .bf16) (a : Fin 32) (j : Fin 8) (c : Fin 256) :
    k0_pay39 (F := Ideal) v9 v39 cst v45 K (ix3 a j c) = sc K (k0_pay38 v9 v39 cst v45) ⟨a.val * 8 + j.val, by omega⟩ c := by
  unfold sc
  pointwise [k0_pay39]

theorem free_max (v9 : FVec Ideal S256x4 .bf16) (v39 : FVec Ideal S4x128 .bf16) (cst : FVec Ideal S256x128 .f32) (v45 : Vec Ideal S1x1x256x128 .fp8e4m3)
    (K : Vec Ideal S256x128 .bf16) (j : Fin 8) (c : Fin 256) :
    k0_pay40 (F := Ideal) v9 v39 cst v45 K (ix2 j c) = Finset.univ.sup fun a : Fin 32 => (k0_pay39 (F := Ideal) v9 v39 cst v45 K (ix3 a j c) : EReal) := by
  pointwise [k0_pay40]
  rw [neg_inf]
  rfl

theorem free_max' (v9 : FVec Ideal S256x4 .bf16) (v39 : FVec Ideal S4x128 .bf16) (cst : FVec Ideal S256x128 .f32) (v45 : Vec Ideal S1x1x256x128 .fp8e4m3)
    (K : Vec Ideal S256x128 .bf16) (j : Fin 8) (c : Fin 256) :
    k0_pay43 (F := Ideal) v9 v39 cst v45 K (ix3 0 j c) = k0_pay40 (F := Ideal) v9 v39 cst v45 K (ix2 j c) := by
  pointwise [k0_pay43]

theorem free_probs (v9 : FVec Ideal S256x4 .bf16) (v39 : FVec Ideal S4x128 .bf16) (cst : FVec Ideal S256x128 .f32) (v45 : Vec Ideal S1x1x256x128 .fp8e4m3)
    (K : Vec Ideal S256x128 .bf16) (a : Fin 32) (j : Fin 8) (c : Fin 256) :
    k0_pay41 (F := Ideal) v9 v39 cst v45 K (ix3 a j c)
      = Ideal.exp2 (((k0_pay39 (F := Ideal) v9 v39 cst v45 K (ix3 a j c) : EReal) - k0_pay40 (F := Ideal) v9 v39 cst v45 K (ix2 j c)) * (Row.scl2 : EReal)) := by
  pointwise [k0_pay41]
  rfl

theorem free_probs' (v9 : FVec Ideal S256x4 .bf16) (v39 : FVec Ideal S4x128 .bf16) (cst : FVec Ideal S256x128 .f32) (v45 : Vec Ideal S1x1x256x128 .fp8e4m3)
    (K : Vec Ideal S256x128 .bf16) (a : Fin 32) (j : Fin 8) (c : Fin 256) :
    k0_pay42 (F := Ideal) v9 v39 cst v45 K (ix4 0 a j c) = k0_pay41 (F := Ideal) v9 v39 cst v45 K (ix3 a j c) := by
  pointwise [k0_pay42]

theorem free_sum (v9 : FVec Ideal S256x4 .bf16) (v39 : FVec Ideal S4x128 .bf16) (cst : FVec Ideal S256x128 .f32) (v45 : Vec Ideal S1x1x256x128 .fp8e4m3)
    (K : Vec Ideal S256x128 .bf16) (j : Fin 8) (c : Fin 256) :
    k0_pay44 (F := Ideal) v9 v39 cst v45 K (ix3 0 j c) = ∑ a : Fin 32, (k0_pay41 (F := Ideal) v9 v39 cst v45 K (ix3 a j c) : EReal) := by
  pointwise [k0_pay44]

theorem mask_word (r c : Fin 256) : k0_pay51 (ix2 r c) = IntOp.muli (modW 8#32 (BitVec.ofNat 32 r.val)) 32#32 := by
  pointwise [k0_pay51]
  rfl

/-- The masked scores of the diagonal tile: a key after the query scores least. -/
theorem diag_scores (Q : FVec Ideal S256x128 .bf16) (K : Vec Ideal S256x128 .bf16) (a : Fin 32) (j : Fin 8) (c : Fin 256) :
    k0_pay54 (F := Ideal) Q (iota .tc S256x256 32 [0] iota_S256x256_d0_w32) k0_pay51 8#32 k0_pay52 k0_pay53 K (ix3 a j c)
      = if j.val * 32 + a.val ≤ c.val then sc K Q ⟨a.val * 8 + j.val, by omega⟩ c else ⊥ := by
  have h : k0_pay54 (F := Ideal) Q (iota .tc S256x256 32 [0] iota_S256x256_d0_w32) k0_pay51 8#32 k0_pay52 k0_pay53 K (ix3 a j c)
      = Scalar.select (IntOp.cmpi .sle (IntOp.addi (k0_pay51 (ix2 ⟨a.val * 8 + j.val, by omega⟩ c)) (divW 8#32 (BitVec.ofNat 32 (a.val * 8 + j.val)))) (BitVec.ofNat 32 c.val))
          (sc K Q ⟨a.val * 8 + j.val, by omega⟩ c) ⊥ := by
    unfold sc
    pointwise [k0_pay54, k0_pay52, k0_pay53]
    rfl
  have hk := keyW_eq ⟨a.val * 8 + j.val, by omega⟩
  unfold keyW at hk
  have e : keyOf (a.val * 8 + j.val) = j.val * 32 + a.val := by unfold keyOf; omega
  rw [h, mask_word, hk, e, cmpi_sle_ofNat (by omega) c.isLt]
  by_cases hc : j.val * 32 + a.val ≤ c.val
  · rw [if_pos hc, if_pos hc]; rfl
  · rw [if_neg hc, if_neg hc]; rfl

section Diag

variable (Q : FVec Ideal S256x128 .bf16) (i58 : IVec S256x256 32) (v76 : IVec S256x256 32) (w : BitVec 32) (v78 : IVec S256x256 32) (v80 : IVec S256x256 1) (K : Vec Ideal S256x128 .bf16)

theorem diag_max (j : Fin 8) (c : Fin 256) : k0_pay55 (F := Ideal) Q i58 v76 w v78 v80 K (ix2 j c)
    = Finset.univ.sup fun a : Fin 32 => (k0_pay54 (F := Ideal) Q i58 v76 w v78 v80 K (ix3 a j c) : EReal) := by
  pointwise [k0_pay55]
  rw [neg_inf]
  rfl

theorem diag_max' (v : FVec Ideal S8x256 .f32) (j : Fin 8) (c : Fin 256) : k0_pay58 (F := Ideal) v (ix3 0 j c) = v (ix2 j c) := by
  pointwise [k0_pay58]

theorem diag_probs (a : Fin 32) (j : Fin 8) (c : Fin 256) : k0_pay56 (F := Ideal) Q i58 v76 w v78 v80 K (ix3 a j c)
    = Ideal.exp2 (((k0_pay54 (F := Ideal) Q i58 v76 w v78 v80 K (ix3 a j c) : EReal) - k0_pay55 (F := Ideal) Q i58 v76 w v78 v80 K (ix2 j c)) * (Row.scl2 : EReal)) := by
  pointwise [k0_pay56]
  rfl

theorem diag_probs' (a : Fin 32) (j : Fin 8) (c : Fin 256) :
    k0_pay57 (F := Ideal) Q i58 v76 w v78 v80 K (ix4 0 a j c) = k0_pay56 (F := Ideal) Q i58 v76 w v78 v80 K (ix3 a j c) := by
  pointwise [k0_pay57]

theorem diag_sum (v : FVec Ideal S32x8x256 .f32) (j : Fin 8) (c : Fin 256) : k0_pay59 (F := Ideal) v (ix3 0 j c) = ∑ a : Fin 32, (v (ix3 a j c) : EReal) := by
  pointwise [k0_pay59]

end Diag

/-! ## The row sums and the result's steps -/

theorem max_step (v : FVec Ideal S8x256 .f32) (x : Vec Ideal S1x8x256 .f32) (j : Fin 8) (c : Fin 256) :
    k0_pay61 (F := Ideal) v x (ix2 j c) = max (v (ix2 j c) : EReal) (x (ix3 0 j c)) := by
  pointwise [k0_pay61]

theorem max_start (j : Fin 8) (c : Fin 256) : k0_pay60 (F := Ideal) (ix2 j c) = (⊥ : EReal) := rfl

theorem sum_start (j : Fin 8) (c : Fin 256) : k0_pay64 (F := Ideal) (ix2 j c) = (0 : EReal) := by
  pointwise [k0_pay64]

theorem out_start (d : Fin 128) (c : Fin 256) : k0_pay4 (F := Ideal) (ix2 d c) = (0 : EReal) := by
  pointwise [k0_pay4]

theorem top_entry (v : FVec Ideal S8x256 .f32) (c : Fin 256) :
    k0_pay63 (F := Ideal) v (ix2 0 c) = Finset.univ.sup fun j : Fin 8 => (v (ix2 j c) : EReal) := by
  pointwise [k0_pay63]
  rw [neg_inf]
  rfl

theorem weight_step (v : FVec Ideal S8x256 .f32) (x : Vec Ideal S1x8x256 .f32) (j : Fin 8) (c : Fin 256) :
    k0_pay65 (F := Ideal) v x (ix2 j c) = Ideal.exp2 (((x (ix3 0 j c) : EReal) - k0_pay63 (F := Ideal) v (ix2 0 c)) * (Row.scl2 : EReal)) := by
  pointwise [k0_pay65]
  rfl

theorem weight_step' (v : FVec Ideal S8x256 .f32) (x : Vec Ideal S1x8x256 .f32) (j : Fin 8) (c : Fin 256) :
    k0_pay66 (F := Ideal) v x (ix3 0 j c) = k0_pay65 (F := Ideal) v x (ix2 j c) := by
  pointwise [k0_pay66]

theorem sum_step (v w : FVec Ideal S8x256 .f32) (x y : Vec Ideal S1x8x256 .f32) (j : Fin 8) (c : Fin 256) :
    k0_pay67 (F := Ideal) v w x y (ix2 j c) = (w (ix2 j c) : EReal) + (k0_pay65 (F := Ideal) v x (ix2 j c) : EReal) * y (ix3 0 j c) := by
  pointwise [k0_pay67]

theorem inv_entry (v : FVec Ideal S8x256 .f32) (c : Fin 256) : k0_pay71 (F := Ideal) v (ix2 0 c) = Ideal.div 1 (∑ j : Fin 8, (v (ix2 j c) : EReal)) := by
  pointwise [k0_pay71]

theorem out_step (o : FVec Ideal S128x256 .f32) (p : Vec Ideal S1x32x8x256 .f32) (g : Vec Ideal S1x8x256 .f32) (s : Vec Ideal S1x16x256 .bf16)
    (v : Vec Ideal S1x128x256 .bf16) (d : Fin 128) (c : Fin 256) :
    k0_pay5 (F := Ideal) o p g s v (ix2 d c) = (o (ix2 d c) : EReal)
      + ∑ r : Fin 256, (v (ix3 0 d r) : EReal) * ((p (ix4 0 ⟨r.val / 8, by omega⟩ ⟨r.val % 8, by omega⟩ c) : EReal) * g (ix3 0 ⟨r.val % 8, by omega⟩ c)
          * s (ix3 0 ⟨r.val % 16, by omega⟩ c)) := by
  pointwise [k0_pay5]

theorem out_entry (o : FVec Ideal S128x256 .f32) (d : Fin 128) (c : Fin 256) : k0_pay7 (F := Ideal) o (ix4 0 0 c d) = o (ix2 d c) := by
  pointwise [k0_pay7]

end Cert.KernelIdeal.Value

end
-- ==== Proof.KernelValue.lean ====
/- The kernel's block of results as sums over the tiles: the values times the entries of the quantised row. -/
module

public import proofs.«01_k».proof.Proof.KernelEntries

@[expose] public section

set_option maxRecDepth 16384

noncomputable section

namespace Cert.KernelIdeal.Value

open Cert.KernelIdeal Cert.KernelIdeal.Gen Cert.Words
open Idealize.ShloMosaic

variable (x0 : Vec Ideal S1x1x256x128 .fp8e4m3) (x1 : Vec Ideal S1x1x256x4 .i8) (kt : ℕ → Vec Ideal S256x128 .bf16) (vt : ℕ → Vec Ideal S1x128x256 .bf16) (qi : ℕ)

/-- The scores of query `c` of the tile, tile by tile, block by block: least for a key of the diagonal tile beyond the query. -/
def scores (c : Fin 256) (n : ℕ) (j : Fin 8) (a : Fin 32) : EReal :=
  if n < qi ∨ j.val * 32 + a.val ≤ c.val then sc (kt n) (queries x0 x1) ⟨a.val * 8 + j.val, by omega⟩ c else ⊥

theorem blockMax_entry (n : ℕ) (j : Fin 8) (c : Fin 256) : blockMax x0 x1 kt qi n (ix3 0 j c) = Row.bm (scores x0 x1 kt qi c) n j := by
  unfold blockMax Row.bm scores
  by_cases h : n < qi
  · rw [if_pos h, free_max', free_max]
    refine Finset.sup_congr rfl fun a _ => ?_
    rw [free_scores, if_pos (Or.inl h)]
    rfl
  · rw [if_neg h, diag_max', diag_max]
    refine Finset.sup_congr rfl fun a _ => ?_
    rw [diag_scores]
    simp only [h, false_or]

theorem probs_entry (n : ℕ) (j : Fin 8) (a : Fin 32) (c : Fin 256) :
    probs x0 x1 kt qi n (ix4 0 a j c) = Row.pr (scores x0 x1 kt qi c) n j a := by
  have hm := blockMax_entry x0 x1 kt qi n j c
  unfold Row.pr
  rw [← hm]
  unfold probs blockMax scores
  by_cases h : n < qi
  · rw [if_pos h, if_pos h, free_probs', free_probs, free_scores, free_max', if_pos (Or.inl h)]
    rfl
  · rw [if_neg h, if_neg h, diag_probs', diag_probs, diag_scores, diag_max']
    simp only [h, false_or]

theorem blockSum_entry (n : ℕ) (j : Fin 8) (c : Fin 256) :
    blockSum x0 x1 kt qi n (ix3 0 j c) = ∑ a : Fin 32, Row.pr (scores x0 x1 kt qi c) n j a := by
  have hp := fun a => probs_entry x0 x1 kt qi n j a c
  unfold blockSum
  unfold probs at hp
  by_cases h : n < qi
  · rw [if_pos h, free_sum]
    refine Finset.sum_congr rfl fun a _ => ?_
    rw [← hp a, if_pos h, free_probs']
  · rw [if_neg h, diag_sum]
    refine Finset.sum_congr rfl fun a _ => ?_
    rw [← hp a, if_neg h, diag_probs']

theorem max_fold (c : Fin 256) (j : Fin 8) (N : ℕ) :
    accum (fun n a => k0_pay61 a (blockMax x0 x1 kt qi n)) (k0_pay60 (F := Ideal)) N (ix2 j c) = Row.rm (scores x0 x1 kt qi c) N j := by
  unfold Row.rm
  induction N with
  | zero => exact max_start j c
  | succ N ih =>
    refine (max_step _ _ j c).trans ?_
    rw [ih, blockMax_entry, Finset.range_add_one, Finset.sup_insert, sup_comm]

theorem rowMax_entry (c : Fin 256) (j : Fin 8) : rowMax x0 x1 kt qi (ix2 j c) = Row.rm (scores x0 x1 kt qi c) (qi + 1) j :=
  max_fold x0 x1 kt qi c j (qi + 1)

theorem weight_raw (c : Fin 256) (n : ℕ) (j : Fin 8) :
    k0_pay65 (rowMax x0 x1 kt qi) (blockMax x0 x1 kt qi n) (ix2 j c) = Row.wt (scores x0 x1 kt qi c) (qi + 1) n j := by
  unfold Row.wt Row.top
  rw [weight_step, top_entry, blockMax_entry]
  simp only [rowMax_entry]

theorem weight_entry (c : Fin 256) (n : ℕ) (j : Fin 8) : weight x0 x1 kt qi n (ix3 0 j c) = Row.wt (scores x0 x1 kt qi c) (qi + 1) n j := by
  unfold weight
  rw [weight_step', weight_raw]

theorem sum_fold (c : Fin 256) (j : Fin 8) (N : ℕ) :
    accum (fun n a => k0_pay67 (rowMax x0 x1 kt qi) a (blockMax x0 x1 kt qi n) (blockSum x0 x1 kt qi n)) (k0_pay64 (F := Ideal)) N (ix2 j c)
      = ∑ n ∈ Finset.range N, Row.wt (scores x0 x1 kt qi c) (qi + 1) n j * ∑ a, Row.pr (scores x0 x1 kt qi c) n j a := by
  induction N with
  | zero => exact sum_start j c
  | succ N ih =>
    refine (sum_step _ _ _ _ j c).trans ?_
    rw [ih, weight_raw, blockSum_entry, Finset.sum_range_succ]

theorem inverse_entry (c : Fin 256) : k0_pay71 (rowSum x0 x1 kt qi) (ix2 0 c) = Row.rl (scores x0 x1 kt qi c) (qi + 1) := by
  unfold Row.rl Row.rs
  rw [inv_entry]
  refine congrArg (Ideal.div 1) (Finset.sum_congr rfl fun j _ => ?_)
  exact sum_fold x0 x1 kt qi c j (qi + 1)

theorem out_fold (c : Fin 256) (d : Fin 128) (N : ℕ) :
    accum (fun n a => k0_pay5 a (probs x0 x1 kt qi n) (gainOf (k0_pay71 (rowSum x0 x1 kt qi)) (weight x0 x1 kt qi n))
      (scaleOf (k0_pay71 (rowSum x0 x1 kt qi)) (weight x0 x1 kt qi n)) (vt n)) (k0_pay4 (F := Ideal)) N (ix2 d c)
      = ∑ n ∈ Finset.range N, ∑ r : Fin 256, (vt n (ix3 0 d r) : EReal)
          * Row.entry (scores x0 x1 kt qi c) (qi + 1) n ⟨r.val % 8, by omega⟩ ⟨r.val / 8, by omega⟩ := by
  induction N with
  | zero => exact out_start d c
  | succ N ih =>
    refine (out_step _ _ _ _ _ d c).trans ?_
    rw [ih, Finset.sum_range_succ]
    refine congrArg (_ + ·) (Finset.sum_congr rfl fun r _ => congrArg (_ * ·) ?_)
    have e : (⟨(⟨r.val % 16, by omega⟩ : Fin 16).val % 8, by omega⟩ : Fin 8) = ⟨r.val % 8, by omega⟩ := Fin.ext (by show r.val % 16 % 8 = r.val % 8; omega)
    unfold Row.entry
    rw [probs_entry, gain_entry, scale_entry, e, weight_entry, inverse_entry]

/-- The block of results: per query and column, the sum over the tiles of the values times the entries of the quantised row. -/
theorem body_entry (c : Fin 256) (d : Fin 128) :
    bodyOut x0 x1 kt vt qi (ix4 0 0 c d)
      = ∑ n ∈ Finset.range (qi + 1), ∑ r : Fin 256, (vt n (ix3 0 d r) : EReal)
          * Row.entry (scores x0 x1 kt qi c) (qi + 1) n ⟨r.val % 8, by omega⟩ ⟨r.val / 8, by omega⟩ := by
  unfold bodyOut
  rw [out_entry, out_fold]

end Cert.KernelIdeal.Value

end
-- ==== Proof.KernelIndex.lean ====
/- Where the blocks of the idealized kernel's windows lie at each grid point, and at which points the scratch buffers are
   filled, as arithmetic in the point. -/
module

public import proofs.«01_k».proof.Proof.Tiles
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A word made of a coordinate below the bound of every grid axis reads back as that coordinate. -/
theorem toNat_coord {n : ℕ} (h : n < 48) : (BitVec.ofNat 32 n).toNat = n := by
  rw [BitVec.toNat_ofNat]; exact Nat.mod_eq_of_lt (by omega)

/-- The query head of a key head and a member of its group, computed in words, as a number. -/
theorem toNat_head {a b : ℕ} (ha : a < 8) (hb : b < 5) :
    (Scalar.addi (Scalar.muli (BitVec.ofNat 32 a) 5#32) (BitVec.ofNat 32 b)).toNat = a * 5 + b := by
  have : ∀ (a : Fin 8) (b : Fin 5), (Scalar.addi (Scalar.muli (BitVec.ofNat 32 a.val) 5#32) (BitVec.ofNat 32 b.val)).toNat = a.val * 5 + b.val := by
    decide
  exact this ⟨a, ha⟩ ⟨b, hb⟩

theorem coords_0 (t : Fin cfg0.N) : (grid0.coords t 0).val = t.val / 1920 := by
  have h : t.val < 3840 := lt_of_lt_of_eq t.isLt N_0
  rw [Pipeline.Grid.coords_val (S := 1920) (B := 2) t 0 (by decide) rfl]; omega
theorem coords_1 (t : Fin cfg0.N) : (grid0.coords t 1).val = t.val / 240 % 8 :=
  Pipeline.Grid.coords_val (S := 240) (B := 8) t 1 (by decide) rfl
theorem coords_2 (t : Fin cfg0.N) : (grid0.coords t 2).val = t.val / 48 % 5 :=
  Pipeline.Grid.coords_val (S := 48) (B := 5) t 2 (by decide) rfl
/-- The query tile of a point. -/
theorem coords_3 (t : Fin cfg0.N) : (grid0.coords t 3).val = t.val % 48 := by
  rw [Pipeline.Grid.coords_val (S := 1) (B := 48) t 3 (by decide) rfl, Nat.div_one]

/-- The block of window 0 at a point: batch, query head, query tile. -/
theorem index_0 (t : Fin cfg0.N) : win0_0.index t = ![t.val / 1920, t.val / 240 % 8 * 5 + t.val / 48 % 5, t.val % 48, 0] := by
  have h0 : (grid0.coords t 0).val < 2 := (grid0.coords t 0).isLt
  have h1 : (grid0.coords t 1).val < 8 := (grid0.coords t 1).isLt
  have h2 : (grid0.coords t 2).val < 5 := (grid0.coords t 2).isLt
  have h3 : (grid0.coords t 3).val < 48 := (grid0.coords t 3).isLt
  show cc0_transform_0 (grid0.coords t) = _
  unfold cc0_transform_0
  dsimp only
  rw [toNat_coord (by omega), toNat_head (by omega) (by omega), toNat_coord (by omega), coords_0, coords_1, coords_2, coords_3]; rfl
/-- The block of window 1 at a point: batch, query head, query tile. -/
theorem index_1 (t : Fin cfg0.N) : win0_1.index t = ![t.val / 1920, t.val / 240 % 8 * 5 + t.val / 48 % 5, t.val % 48, 0] := by
  have h0 : (grid0.coords t 0).val < 2 := (grid0.coords t 0).isLt
  have h1 : (grid0.coords t 1).val < 8 := (grid0.coords t 1).isLt
  have h2 : (grid0.coords t 2).val < 5 := (grid0.coords t 2).isLt
  have h3 : (grid0.coords t 3).val < 48 := (grid0.coords t 3).isLt
  show cc0_transform_1 (grid0.coords t) = _
  unfold cc0_transform_1
  dsimp only
  rw [toNat_coord (by omega), toNat_head (by omega) (by omega), toNat_coord (by omega), coords_0, coords_1, coords_2, coords_3]; rfl
/-- The block of window 2 at a point: batch and key head. -/
theorem index_2 (t : Fin cfg0.N) : win0_2.index t = ![t.val / 1920, t.val / 240 % 8, 0, 0] := by
  have h0 : (grid0.coords t 0).val < 2 := (grid0.coords t 0).isLt
  have h1 : (grid0.coords t 1).val < 8 := (grid0.coords t 1).isLt
  have h2 : (grid0.coords t 2).val < 5 := (grid0.coords t 2).isLt
  have h3 : (grid0.coords t 3).val < 48 := (grid0.coords t 3).isLt
  show cc0_transform_2 (grid0.coords t) = _
  unfold cc0_transform_2
  dsimp only
  rw [toNat_coord (by omega), toNat_coord (by omega), coords_0, coords_1]; rfl
/-- The block of window 3 at a point: batch and key head. -/
theorem index_3 (t : Fin cfg0.N) : win0_3.index t = ![t.val / 1920, t.val / 240 % 8, 0, 0] := by
  have h0 : (grid0.coords t 0).val < 2 := (grid0.coords t 0).isLt
  have h1 : (grid0.coords t 1).val < 8 := (grid0.coords t 1).isLt
  have h2 : (grid0.coords t 2).val < 5 := (grid0.coords t 2).isLt
  have h3 : (grid0.coords t 3).val < 48 := (grid0.coords t 3).isLt
  show cc0_transform_3 (grid0.coords t) = _
  unfold cc0_transform_3
  dsimp only
  rw [toNat_coord (by omega), toNat_coord (by omega), coords_0, coords_1]; rfl
/-- The block of window 4 at a point: batch and key head. -/
theorem index_4 (t : Fin cfg0.N) : win0_4.index t = ![t.val / 1920, t.val / 240 % 8, 0, 0] := by
  have h0 : (grid0.coords t 0).val < 2 := (grid0.coords t 0).isLt
  have h1 : (grid0.coords t 1).val < 8 := (grid0.coords t 1).isLt
  have h2 : (grid0.coords t 2).val < 5 := (grid0.coords t 2).isLt
  have h3 : (grid0.coords t 3).val < 48 := (grid0.coords t 3).isLt
  show cc0_transform_4 (grid0.coords t) = _
  unfold cc0_transform_4
  dsimp only
  rw [toNat_coord (by omega), toNat_coord (by omega), coords_0, coords_1]; rfl
/-- The block of window 5 at a point: batch and key head. -/
theorem index_5 (t : Fin cfg0.N) : win0_5.index t = ![t.val / 1920, t.val / 240 % 8, 0, 0, 0] := by
  have h0 : (grid0.coords t 0).val < 2 := (grid0.coords t 0).isLt
  have h1 : (grid0.coords t 1).val < 8 := (grid0.coords t 1).isLt
  have h2 : (grid0.coords t 2).val < 5 := (grid0.coords t 2).isLt
  have h3 : (grid0.coords t 3).val < 48 := (grid0.coords t 3).isLt
  show cc0_transform_5 (grid0.coords t) = _
  unfold cc0_transform_5
  dsimp only
  rw [toNat_coord (by omega), toNat_coord (by omega), coords_0, coords_1]; rfl
/-- The block of window 6 at a point: batch, query head, query tile. -/
theorem index_6 (t : Fin cfg0.N) : win0_6.index t = ![t.val / 1920, t.val / 240 % 8 * 5 + t.val / 48 % 5, t.val % 48, 0] := by
  have h0 : (grid0.coords t 0).val < 2 := (grid0.coords t 0).isLt
  have h1 : (grid0.coords t 1).val < 8 := (grid0.coords t 1).isLt
  have h2 : (grid0.coords t 2).val < 5 := (grid0.coords t 2).isLt
  have h3 : (grid0.coords t 3).val < 48 := (grid0.coords t 3).isLt
  show cc0_transform_6 (grid0.coords t) = _
  unfold cc0_transform_6
  dsimp only
  rw [toNat_coord (by omega), toNat_head (by omega) (by omega), toNat_coord (by omega), coords_0, coords_1, coords_2, coords_3]; rfl
/-- The scratch buffers are filled at the first point of each head. -/
theorem fill_iff (t : Fin cfg0.N) : k0_cond1 (grid0.coords t) = 1#1 ↔ t.val % 240 = 0 := by
  have h2 : (grid0.coords t 2).val < 5 := (grid0.coords t 2).isLt
  have h3 : (grid0.coords t 3).val < 48 := (grid0.coords t 3).isLt
  have key : ∀ (a : Fin 5) (b : Fin 48), (Scalar.cmpi .ne (Scalar.extui (Scalar.andi (Scalar.cmpi .eq (BitVec.ofNat 32 a.val) 0#32) (Scalar.cmpi .eq (BitVec.ofNat 32 b.val) 0#32)) : BitVec 32) 0#32) = 1#1
      ↔ a.val = 0 ∧ b.val = 0 := by
    decide +kernel
  refine (key ⟨_, h2⟩ ⟨_, h3⟩).trans ?_
  show (grid0.coords t 2).val = 0 ∧ (grid0.coords t 3).val = 0 ↔ _
  rw [coords_2, coords_3]
  omega

end Cert.KernelIdeal.Value

end
-- ==== Proof.KernelRun.lean ====
/- The run of the idealized kernel with its values: between two points of one head the two scratch buffers hold the
   head's dequantised keys and values, and after the last point the result array holds, block by block, what the body
   computes of the blocks of the argument arrays. -/
module

public import proofs.«01_k».proof.Proof.KernelBody
public import proofs.«01_k».proof.Proof.KernelIndex
public import proofs.«01_k».proof.Proof.KernelIdealFrame
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The bound of a grid point, as a number. -/
theorem point_lt (t : Fin cfg0.N) : t.val < 3840 := lt_of_lt_of_eq t.isLt N_0

/-- The batch of a point. -/
def batch (t : Fin cfg0.N) : Fin 2 := ⟨t.val / 1920, by have := point_lt t; omega⟩
/-- The key head of a point. -/
def head (t : Fin cfg0.N) : Fin 8 := ⟨t.val / 240 % 8, by omega⟩
/-- The query head of a point. -/
def qhead (t : Fin cfg0.N) : Fin 40 := ⟨t.val / 240 % 8 * 5 + t.val / 48 % 5, by omega⟩
/-- The query tile of a point. -/
def qtile (t : Fin cfg0.N) : Fin 48 := ⟨t.val % 48, by omega⟩

/-- A tile of query codes of the whole array. -/
def qBlock (X : Vec F S2x40x12288x128 .fp8e4m3) (b : Fin 2) (h : Fin 40) (n : Fin 48) : Vec F S1x1x256x128 .fp8e4m3 :=
  fun y => X (ix4 b h ⟨256 * n.val + (y 2).val, by have : (y 2).val < 256 := (y 2).isLt; omega⟩ (y 3))
/-- A tile of query scales of the whole array. -/
def qsBlock (X : Vec F S2x40x12288x4 .i8) (b : Fin 2) (h : Fin 40) (n : Fin 48) : Vec F S1x1x256x4 .i8 :=
  fun y => X (ix4 b h ⟨256 * n.val + (y 2).val, by have : (y 2).val < 256 := (y 2).isLt; omega⟩ (y 3))
/-- The key codes of one head. -/
def kBlock (X : Vec F S2x8x12288x128 .fp8e4m3) (b : Fin 2) (h : Fin 8) : Vec F S1x1x12288x128 .fp8e4m3 :=
  fun y => X (ix4 b h (y 2) (y 3))
/-- The key scales of one head. -/
def ksBlock (X : Vec F S2x8x12288x4 .i8) (b : Fin 2) (h : Fin 8) : Vec F S1x1x12288x4 .i8 :=
  fun y => X (ix4 b h (y 2) (y 3))
/-- The value codes of one head. -/
def vBlock (X : Vec F S2x8x128x12288 .fp8e4m3) (b : Fin 2) (h : Fin 8) : Vec F S1x1x128x12288 .fp8e4m3 :=
  fun y => X (ix4 b h (y 2) (y 3))
/-- The value scales of one head, tile by tile. -/
def vsBlock (X : Vec F S2x8x48x128x8 .i8) (b : Fin 2) (h : Fin 8) : Vec F S1x1x48x128x8 .i8 :=
  fun y => X (ix5 b h (y 2) (y 3) (y 4))

theorem iblk_0 (c : Dev nD) (t : Fin cfg0.N) : (iblk m c 0 t : Vec F S1x1x256x128 .fp8e4m3) = qBlock (V m c main_arg0) (batch t) (qhead t) (qtile t) := by
  funext y
  blk_simp [iblk, qBlock]
  blk_ext [index_0, batch, qhead, qtile]
theorem iblk_1 (c : Dev nD) (t : Fin cfg0.N) : (iblk m c 1 t : Vec F S1x1x256x4 .i8) = qsBlock (V m c main_arg1) (batch t) (qhead t) (qtile t) := by
  funext y
  blk_simp [iblk, qsBlock]
  blk_ext [index_1, batch, qhead, qtile]
theorem iblk_2 (c : Dev nD) (t : Fin cfg0.N) : (iblk m c 2 t : Vec F S1x1x12288x128 .fp8e4m3) = kBlock (V m c main_arg2) (batch t) (head t) := by
  funext y
  blk_simp [iblk, kBlock]
  blk_ext [index_2, batch, head]
theorem iblk_3 (c : Dev nD) (t : Fin cfg0.N) : (iblk m c 3 t : Vec F S1x1x12288x4 .i8) = ksBlock (V m c main_arg3) (batch t) (head t) := by
  funext y
  blk_simp [iblk, ksBlock]
  blk_ext [index_3, batch, head]
theorem iblk_4 (c : Dev nD) (t : Fin cfg0.N) : (iblk m c 4 t : Vec F S1x1x128x12288 .fp8e4m3) = vBlock (V m c main_arg4) (batch t) (head t) := by
  funext y
  blk_simp [iblk, vBlock]
  blk_ext [index_4, batch, head]
theorem iblk_5 (c : Dev nD) (t : Fin cfg0.N) : (iblk m c 5 t : Vec F S1x1x48x128x8 .i8) = vsBlock (V m c main_v1) (batch t) (head t) := by
  funext y
  blk_simp [iblk, vsBlock]
  blk_ext [index_5, batch, head]

/-- The dequantised key tiles of one head. -/
def keysAt (c : Dev nD) (b : Fin 2) (h : Fin 8) : ℕ → Vec F S256x128 .bf16 :=
  keyTile (kBlock (V m c main_arg2) b h) (ksBlock (V m c main_arg3) b h)
/-- The dequantised value tiles of one head. -/
def valsAt (c : Dev nD) (b : Fin 2) (h : Fin 8) : ℕ → Vec F S1x128x256 .bf16 :=
  valTile (vBlock (V m c main_arg4) b h) (vsBlock (V m c main_v1) b h)
/-- The result block of one query tile of one query head. -/
def outAt (c : Dev nD) (b : Fin 2) (h : Fin 40) (n : Fin 48) : Vec F S1x1x256x128 .bf16 :=
  bodyOut (qBlock (V m c main_arg0) b h n) (qsBlock (V m c main_arg1) b h n)
    (keysAt m c b ⟨h.val / 5, by omega⟩) (valsAt m c b ⟨h.val / 5, by omega⟩) n.val

/-- What the two scratch buffers of keys and values hold before a point: after point `u`, the tiles of `u`'s head. -/
def held (c : Dev nD) (t : ℕ) (X7 : Vec F S12288x128 .bf16) (X8 : Vec F S48x128x256 .bf16) : Prop :=
  ∀ u : Fin cfg0.N, u.val + 1 = t → HasKeys X7 (keysAt m c (batch u) (head u)) ∧ HasVals X8 (valsAt m c (batch u) (head u))

/-- The region's invariant: the buffers of keys and values hold the current head's, the others anything. -/
def ΦV (c : Dev nD) (t : ℕ) : sProp 𝕄 :=
  iprop((∃ X7 X8, ⌜held m c t X7 X8⌝ ∗ owns (c : Thread nD τ) (Memref.whole cc0_scratch0) fullShare X7 ∗ owns (c : Thread nD τ) (Memref.whole cc0_scratch1) fullShare X8)
        ∗ ((∃ d, owns (c : Thread nD τ) (Memref.whole cc0_scratch2) fullShare d) ∗ (∃ d, owns (c : Thread nD τ) (Memref.whole cc0_scratch3) fullShare d)
        ∗ (∃ d, owns (c : Thread nD τ) (Memref.whole cc0_scratch4) fullShare d) ∗ (∃ d, owns (c : Thread nD τ) (Memref.whole cc0_scratch5) fullShare d)
        ∗ (∃ d, owns (c : Thread nD τ) (Memref.whole cc0_scratch6) fullShare d)) ∗ ∃ r, prngReg c r)

/-- The proof data: the input windows at their blocks, the output window at the body's value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c (batch t) (qhead t) (qtile t)
  Φ t := ΦV m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = outAt m c (batch t) (qhead t) (qtile t) := by dsimp only [dats]

theorem Φ_entry (c : Dev nD) : (Pipeline.ΦA spec0 c : sProp 𝕄) ⊢ ΦV m c 0 := by
  rw [Hand.ΦA_eq]
  unfold ΦV
  iintro ⟨⟨⟨%X7, S0⟩, ⟨%X8, S1⟩, S2⟩, Hr⟩
  isplitl [S0 S1]
  · iexists X7; iexists X8
    isplitr
    · ipureintro; intro u hu; omega
    isplitl [S0]; · iexact S0
    iexact S1
  isplitl [S2]; · iexact S2
  iexact Hr

theorem Φ_exit (c : Dev nD) (t : ℕ) : ΦV m c t ⊢ (Pipeline.ΦA spec0 c : sProp 𝕄) := by
  rw [Hand.ΦA_eq]
  unfold ΦV
  iintro ⟨⟨%X7, %X8, -, S0, S1⟩, S2, Hr⟩
  isplitr [Hr]
  · isplitl [S0]; · iexists X7; iexact S0
    isplitl [S1]; · iexists X8; iexact S1
    iexact S2
  iexact Hr

/-- The blocks of one point, as the body's triple names them. -/
theorem out_blocks (c : Dev nD) (t : Fin cfg0.N) :
    bodyOut (iblk m c 0 t) (iblk m c 1 t) (keyTile (iblk m c 2 t) (iblk m c 3 t)) (valTile (iblk m c 4 t) (iblk m c 5 t)) ((grid0.coords t) 3).val
      = outAt m c (batch t) (qhead t) (qtile t) := by
  have e : (⟨(qhead t).val / 5, by omega⟩ : Fin 8) = head t := Fin.ext (by
    show (t.val / 240 % 8 * 5 + t.val / 48 % 5) / 5 = t.val / 240 % 8
    omega)
  rw [iblk_0, iblk_1, iblk_2, iblk_3, iblk_4, iblk_5, coords_3]
  unfold outAt
  rw [e]
  rfl

theorem key_blocks (c : Dev nD) (t : Fin cfg0.N) :
    keyTile (iblk m c 2 t) (iblk m c 3 t) = keysAt m c (batch t) (head t) := by
  rw [iblk_2, iblk_3]; rfl
theorem val_blocks (c : Dev nD) (t : Fin cfg0.N) :
    valTile (iblk m c 4 t) (iblk m c 5 t) = valsAt m c (batch t) (head t) := by
  rw [iblk_4, iblk_5]; rfl

/-- Where the buffers are not filled, the point before is of the same head, and they hold its tiles. -/
theorem held_here (c : Dev nD) (t : Fin cfg0.N) {X7 : Vec F S12288x128 .bf16} {X8 : Vec F S48x128x256 .bf16} (h : held m c t.val X7 X8)
    (hc : ¬ k0_cond1 (grid0.coords t) = 1#1) :
    HasKeys X7 (keyTile (iblk m c 2 t) (iblk m c 3 t)) ∧ HasVals X8 (valTile (iblk m c 4 t) (iblk m c 5 t)) := by
  rw [key_blocks, val_blocks]
  have h240 : ¬ t.val % 240 = 0 := fun e => hc ((fill_iff t).mpr e)
  have hlt := point_lt t
  have hN : t.val - 1 < cfg0.N := lt_of_le_of_lt (Nat.sub_le _ _) t.isLt
  have := h ⟨t.val - 1, hN⟩ (by show t.val - 1 + 1 = t.val; omega)
  have e1 : batch (⟨t.val - 1, hN⟩ : Fin cfg0.N) = batch t := Fin.ext (by show (t.val - 1) / 1920 = t.val / 1920; omega)
  have e2 : head (⟨t.val - 1, hN⟩ : Fin cfg0.N) = head t := Fin.ext (by show (t.val - 1) / 240 % 8 = t.val / 240 % 8; omega)
  rw [e1, e2] at this
  exact this

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1000000 in
/-- The body at any point, by its triple. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, after0_0, after0_1, after0_2, after0_3, after0_4, after0_5, after0_6]
  rw [show (dats m 0 c).Φ t.succ = ΦV m c (t.val + 1) from rfl, show (dats m 0 c).Φ t.castSucc = ΦV m c t.val from rfl,
    show (dats m 0 c).owesAt () t.succ = (dats m 0 c).owesAt () t.castSucc from rfl, ← out_blocks]
  unfold ΦV
  iintro ⟨⟨⟨%X7, %X8, %hX, S0, S1⟩, ⟨S2, S3, S4, S5, S6⟩, Hr⟩, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) X7 X8 (held_here m c t hX) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, ⟨%Y7, %hY7, S0⟩, ⟨%Y8, %hY8, S1⟩, S2, S3, S4, S5, S6⟩
  isplitl [S0 S1 S2 S3 S4 S5 S6 Hr]
  · isplitl [S0 S1]
    · iexists Y7; iexists Y8
      isplitr
      · ipureintro
        intro u hu
        have e : u = t := Fin.ext (by omega)
        subst e
        rw [key_blocks] at hY7
        rw [val_blocks] at hY8
        exact ⟨hY7, hY8⟩
      isplitl [S0]; · iexact S0
      iexact S1
    isplitr [Hr]
    · isplitl [S2]; · iexact S2
      isplitl [S3]; · iexact S3
      isplitl [S4]; · iexact S4
      isplitl [S5]; · iexact S5
      iexact S6
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation (c : Dev nD) : BodyObligation (dats (F := F) m 0 c) (defs₀ (F := F)) Variants.none () Set.univ := fun t => by
  rw [bigSep_W0, bigSep_W0, Hand.defs₀_row]
  exact triple_restated (sound_body m c t) rfl .rfl fun _ => .rfl

set_option backward.isDefEq.respectTransparency.types false in
set_option maxHeartbeats 800000 in
/-- The launch: every execution terminates, each window's array at what the proof data say. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Φ_entry m c) (hout := fun c => Φ_exit m c _)

/-- The whole result array: each query's row from its tile's block. -/
def result (c : Dev nD) : Vec F S2x40x12288x128 .bf16 := fun i =>
  outAt m c (i 0) (i 1) ⟨(i 2).val / 256, by have : (i 2).val < 12288 := (i 2).isLt; omega⟩
    (ix4 0 0 ⟨(i 2).val % 256, by omega⟩ (i 3))

/-- Every element of the result array is in some point's block. -/
theorem cover (i : S2x40x12288x128.Idx) : ∃ t : Fin cfg0.N, (cfg0.win 6).flush t = true ∧ i ∈ ((cfg0.win 6).blk t).view.set := by
  have h0 : (i 0).val < 2 := (i 0).isLt
  have h1 : (i 1).val < 40 := (i 1).isLt
  have h2 : (i 2).val < 12288 := (i 2).isLt
  have h3 : (i 3).val < 128 := (i 3).isLt
  refine ⟨⟨(i 0).val * 1920 + (i 1).val * 48 + (i 2).val / 256, lt_of_lt_of_eq (by omega) N_0.symm⟩, flush0_6 _, ?_⟩
  mem_blk [index_6]
  refine ⟨⟨?_, ?_⟩, ⟨?_, ?_⟩, ⟨?_, ?_⟩, ?_, ?_⟩ <;> dsimp only <;> omega

/-- After the run the result array is `result`. -/
theorem final (c : Dev nD) : (dats m 0 c).arrAt 6 cfg0.N = result m c := by
  refine (dats m 0 c).arrAt_eq_of_emb 6 _ (fun t hf y => ?_) cover
  rw [after0_6]
  unfold result
  have e2 : ((win0_6.blk t).view.emb y 2).val = t.val % 48 * 256 + (y 2).val := by blk_simp [index_6]
  have h2 : (y 2).val < 256 := (y 2).isLt
  have hlt := point_lt t
  have d0 : batch t = (win0_6.blk t).view.emb y 0 := Fin.ext (by
    have h : (y 0).val < 1 := (y 0).isLt
    have e : ((win0_6.blk t).view.emb y 0).val = t.val / 1920 := by blk_simp [index_6]
    exact e.symm)
  have d1 : qhead t = (win0_6.blk t).view.emb y 1 := Fin.ext (by
    have h : (y 1).val < 1 := (y 1).isLt
    have e : ((win0_6.blk t).view.emb y 1).val = t.val / 240 % 8 * 5 + t.val / 48 % 5 := by blk_simp [index_6]
    exact e.symm)
  have d3 : ((win0_6.blk t).view.emb y 3).val = (y 3).val := by blk_simp [index_6]
  refine Eq.trans ?_ (congr_fun (congr (congr (congrArg (outAt m c) d0) d1) (?_ : qtile t = _)) _)
  · refine congrArg (outAt m c (batch t) (qhead t) (qtile t)) (?_ : (y : S1x1x256x128.Idx) = _)
    funext a
    apply Fin.ext
    have h0 : (y 0).val < 1 := (y 0).isLt
    have h1 : (y 1).val < 1 := (y 1).isLt
    fin_cases a
    · show (y 0).val = 0; omega
    · show (y 1).val = 0; omega
    · show (y 2).val = ((win0_6.blk t).view.emb y 2).val % 256; omega
    · show (y 3).val = ((win0_6.blk t).view.emb y 3).val; omega
  · apply Fin.ext
    show t.val % 48 = ((win0_6.blk t).view.emb y 2).val / 256
    omega

/-- The value of the kernel: every execution terminates with the result array at `result` and the arguments as they were. -/
theorem run_result : θ_run defs (onTc (τ := τ) (main (F := F))) (s₀ m ρ) (fun r => ∀ c : Dev nD,
    r.2.mem ((c.tc : Thread nD τ).loc main_v2) = result m c) :=
  (θ_run defs _ _).mono (fun _ h c => (Pipeline.FramePost.out_eq h c 6).trans (final m c)) (run_main m ρ)

end Cert.KernelIdeal.Value

end
-- ==== Proof.Operands.lean ====
/- The kernel's tiles of keys and values, entry by entry, off the whole arrays; and the layout that the host gives the value scales. -/
module

public import proofs.«01_k».proof.Proof.KernelRun
public import proofs.«01_k».proof.Proof.Entries

@[expose] public section

set_option maxRecDepth 16384

noncomputable section

namespace Cert.KernelIdeal.Value

open Cert.KernelIdeal Cert.KernelIdeal.Gen Cert.Words
open Idealize.ShloMosaic Idealize.ShloMosaic.TcCoe

/-- An entry of a tile of keys. -/
theorem keyTile_entry (X2 : Vec Ideal S2x8x12288x128 .fp8e4m3) (X3 : Vec Ideal S2x8x12288x4 .i8) (b : Fin 2) (h : Fin 8) (t : ℕ) (ht : t < 48)
    (r : Fin 256) (x : Fin 128) (k : Fin 12288) (hk : k.val = 256 * t + keyOf r.val) (hn : Normal (X3 (ix4 b h k ⟨x.val / 32, by omega⟩))) :
    keyTile (kBlock X2 b h) (ksBlock X3 b h) t (ix2 r x) = (X2 (ix4 b h k x) : EReal) * dec (X3 (ix4 b h k ⟨x.val / 32, by omega⟩)) := by
  have hmin : min t 47 = t := by omega
  have e2 : View.ld (Val := Elt Ideal) (e' := .fp8e4m3) (kBlock X2 b h) (Rect.unit (s := S1x1x12288x128) ![0, 0, 256 * min t 47, 0] S1x1x256x128.size (keyTile_inb t))
      (ix4 0 0 ⟨keyOf r.val, keyOf_lt r.isLt⟩ x) = X2 (ix4 b h k x) := by
    refine View.ld_unit_apply_of _ _ _ _ _ (ix4 0 0 k x) fun a => ?_
    fin_cases a
    · rfl
    · rfl
    · show k.val = 256 * min t 47 + keyOf r.val; omega
    · show x.val = 0 + x.val; omega
  have e3 : View.ld (Val := Elt Ideal) (e' := .i8) (ksBlock X3 b h) (Rect.unit (s := S1x1x12288x4) ![0, 0, 256 * min t 47, 0] S1x1x256x4.size (keyTile_inb' t))
      (ix4 0 0 ⟨keyOf r.val, keyOf_lt r.isLt⟩ ⟨x.val / 32, by omega⟩) = X3 (ix4 b h k ⟨x.val / 32, by omega⟩) := by
    refine View.ld_unit_apply_of _ _ _ _ _ (ix4 0 0 k ⟨x.val / 32, by omega⟩) fun a => ?_
    fin_cases a
    · rfl
    · rfl
    · show k.val = 256 * min t 47 + keyOf r.val; omega
    · show x.val / 32 = 0 + x.val / 32; omega
  unfold keyTile
  refine (keys_entry _ _ r x (e3 ▸ hn)).trans ?_
  rw [e2, e3]

/-- An entry of a tile of values. -/
theorem valTile_entry (X4 : Vec Ideal S2x8x128x12288 .fp8e4m3) (X5 : Vec Ideal S2x8x48x128x8 .i8) (b : Fin 2) (h : Fin 8) (t : ℕ) (ht : t < 48)
    (r : Fin 256) (d : Fin 128) (k : Fin 12288) (hk : k.val = 256 * t + keyOf r.val) (hn : Normal (X5 (ix5 b h ⟨t, ht⟩ d ⟨r.val % 8, by omega⟩))) :
    valTile (vBlock X4 b h) (vsBlock X5 b h) t (ix3 0 d r) = (X4 (ix4 b h d k) : EReal) * dec (X5 (ix5 b h ⟨t, ht⟩ d ⟨r.val % 8, by omega⟩)) := by
  have hmin : min t 47 = t := by omega
  have e2 : View.ld (Val := Elt Ideal) (e' := .fp8e4m3) (vBlock X4 b h) (Rect.unit (s := S1x1x128x12288) ![0, 0, 0, 256 * min t 47] S1x1x128x256.size (valTile_inb t))
      (ix4 0 0 d ⟨keyOf r.val, keyOf_lt r.isLt⟩) = X4 (ix4 b h d k) := by
    refine View.ld_unit_apply_of _ _ _ _ _ (ix4 0 0 d k) fun a => ?_
    fin_cases a
    · rfl
    · rfl
    · show d.val = 0 + d.val; omega
    · show k.val = 256 * min t 47 + keyOf r.val; omega
  have e3 : View.ld (Val := Elt Ideal) (e' := .i8) (vsBlock X5 b h) (Rect.unit (s := S1x1x48x128x8) ![0, 0, min t 47, 0, 0] S1x1x1x128x8.size (valTile_inb' t))
      (ix5 0 0 0 d ⟨r.val % 8, by omega⟩) = X5 (ix5 b h ⟨t, ht⟩ d ⟨r.val % 8, by omega⟩) := by
    refine View.ld_unit_apply_of _ _ _ _ _ (ix5 0 0 ⟨t, ht⟩ d ⟨r.val % 8, by omega⟩) fun a => ?_
    fin_cases a
    · rfl
    · rfl
    · show t = min t 47 + 0; omega
    · show d.val = 0 + d.val; omega
    · show r.val % 8 = 0 + r.val % 8; omega
  unfold valTile
  refine (vals_entry _ _ d r (e3 ▸ hn)).trans ?_
  rw [e2, e3]

/-- The value scales as the kernel finds them: tile by tile. -/
theorem scales_laid (m : (ℓ : Loc nD τ sig) → Buf (Elt Ideal) ℓ) (c : Dev nD) (b : Fin 2) (h : Fin 8) (n : Fin 48) (d : Fin 128) (j : Fin 8) :
    (V m c main_v1 : Vec Ideal S2x8x48x128x8 .i8) (ix5 b h n d j)
      = (m ((c : Thread nD τ).loc main_arg5) : Vec Ideal S2x8x128x384 .i8) (ix4 b h d ⟨n.val * 8 + j.val, by omega⟩) := by
  entry_read
  pointwise

end Cert.KernelIdeal.Value

end
-- ==== Proof.Equation.lean ====
/- The two rows are one: the sum over the keys of the plain row against the sums over the tiles of the kernel's row. -/
module

public import proofs.«01_k».proof.Proof.Row

@[expose] public section

noncomputable section

namespace Cert.Row

open Idealize.ShloMosaic

/-- The key at place `a` of block `j` of tile `n`. -/
def key (n : ℕ) (hn : n < 48) (j : Fin 8) (a : Fin 32) : Fin 12288 := ⟨256 * n + 32 * j.val + a.val, by omega⟩

/-- Keys are tiles of blocks of places. -/
def keyEquiv : Fin 48 × Fin 8 × Fin 32 ≃ Fin 12288 where
  toFun p := key p.1.val p.1.isLt p.2.1 p.2.2
  invFun k := (⟨k.val / 256, by omega⟩, ⟨k.val / 32 % 8, by omega⟩, ⟨k.val % 32, by omega⟩)
  left_inv p := by
    obtain ⟨n, j, a⟩ := p
    refine Prod.ext (Fin.ext ?_) (Prod.ext (Fin.ext ?_) (Fin.ext ?_))
    · show (256 * n.val + 32 * j.val + a.val) / 256 = n.val; omega
    · show (256 * n.val + 32 * j.val + a.val) / 32 % 8 = j.val; omega
    · show (256 * n.val + 32 * j.val + a.val) % 32 = a.val; omega
  right_inv k := by
    apply Fin.ext
    show 256 * (k.val / 256) + 32 * (k.val / 32 % 8) + k.val % 32 = k.val
    omega

/-- The rows of a tile are its blocks and places, blocks fastest. -/
def rowEquiv : Fin 8 × Fin 32 ≃ Fin 256 where
  toFun p := ⟨p.2.val * 8 + p.1.val, by omega⟩
  invFun r := (⟨r.val % 8, by omega⟩, ⟨r.val / 8, by omega⟩)
  left_inv p := by
    obtain ⟨j, a⟩ := p
    refine Prod.ext (Fin.ext ?_) (Fin.ext ?_)
    · show (a.val * 8 + j.val) % 8 = j.val; omega
    · show (a.val * 8 + j.val) / 8 = a.val; omega
  right_inv r := by
    apply Fin.ext
    show r.val / 8 * 8 + r.val % 8 = r.val
    omega

/-- A sum over the rows of a tile, block by block. -/
theorem sum_rows {M : Type} [AddCommMonoid M] (g : Fin 8 → Fin 32 → M) :
    ∑ r : Fin 256, g ⟨r.val % 8, by omega⟩ ⟨r.val / 8, by omega⟩ = ∑ j, ∑ a, g j a := by
  rw [← Fintype.sum_prod_type' g]
  exact Fintype.sum_equiv rowEquiv.symm _ _ fun r => rfl

/-- A sum over the keys of a function that vanishes beyond the first `N` tiles. -/
theorem sum_tiles {M : Type} [AddCommMonoid M] (f : Fin 12288 → M) (g : ℕ → Fin 8 → Fin 32 → M) (N : ℕ) (hN : N ≤ 48)
    (h : ∀ n (hn : n < 48) j a, f (key n hn j a) = if n < N then g n j a else 0) :
    ∑ k, f k = ∑ n ∈ Finset.range N, ∑ j, ∑ a, g n j a := by
  have e : ∑ k, f k = ∑ n : Fin 48, ∑ j, ∑ a, (if n.val < N then g n.val j a else 0) := by
    rw [← Fintype.sum_equiv keyEquiv (fun p => f (keyEquiv p)) f fun _ => rfl, Fintype.sum_prod_type]
    refine Finset.sum_congr rfl fun n _ => ?_
    rw [Fintype.sum_prod_type]
    exact Finset.sum_congr rfl fun j _ => Finset.sum_congr rfl fun a _ => h n.val n.isLt j a
  rw [e, ← Finset.sum_range fun n => ∑ j, ∑ a, (if n < N then g n j a else 0)]
  symm
  refine (Finset.sum_congr rfl fun n hn => ?_).trans (Finset.sum_subset (Finset.range_subset_range.mpr hN) fun n _ hn => ?_)
  · simp only [Finset.mem_range.mp hn, if_true]
  · have : ¬ n < N := fun w => hn (Finset.mem_range.mpr w)
    simp only [this, if_false, Finset.sum_const_zero]

section Rows

variable (U : ℕ → Fin 8 → Fin 32 → EReal) (N : ℕ) (hN : N ≤ 48) (u : Fin 12288 → EReal)
  (hu : ∀ n (hn : n < 48) j a, u (key n hn j a) = if n < N then U n j a else ⊥)

include hN hu

/-- The greatest score over the keys is the greatest over the tiles. -/
theorem best_eq : best u = top U N := by
  apply le_antisymm
  · refine Finset.sup_le fun k _ => ?_
    obtain ⟨⟨n, j, a⟩, rfl⟩ := keyEquiv.surjective k
    refine (hu n.val n.isLt j a).le.trans ?_
    by_cases h : n.val < N
    · rw [if_pos h]
      exact (le_bm U n.val j a).trans (bm_le U N h j)
    · rw [if_neg h]; exact bot_le
  · refine Finset.sup_le fun j _ => Finset.sup_le fun n hn => Finset.sup_le fun a _ => ?_
    have h := Finset.mem_range.mp hn
    have e := hu n (lt_of_lt_of_le h hN) j a
    rw [if_pos h] at e
    rw [← e]
    exact le_best u _

/-- The sum of the weights over the keys is the sum over the tiles. -/
theorem total_eq : ∑ k, ew (u k) (best u) = total U N := by
  rw [best_eq U N hN u hu]
  refine sum_tiles _ (fun n j a => ew (U n j a) (top U N)) N hN fun n hn j a => ?_
  rw [hu n hn j a]
  by_cases h : n < N
  · rw [if_pos h, if_pos h]
  · rw [if_neg h, if_neg h, ew_bot_left]

/-- The plain row against the values is the kernel's row against the values, tile by tile. -/
theorem rows_eq (V : Fin 12288 → EReal) (W : ℕ → Fin 8 → Fin 32 → EReal) (hV : ∀ n (hn : n < 48) j a, V (key n hn j a) = W n j a) :
    ∑ k, ((ew (u k) (best u) / ∑ k', ew (u k') (best u) : ℝ) : EReal) * V k
      = ∑ n ∈ Finset.range N, ∑ r : Fin 256, W n ⟨r.val % 8, by omega⟩ ⟨r.val / 8, by omega⟩
          * entry U N n ⟨r.val % 8, by omega⟩ ⟨r.val / 8, by omega⟩ := by
  rw [total_eq U N hN u hu, best_eq U N hN u hu]
  refine (sum_tiles _ (fun n j a => W n j a * entry U N n j a) N hN fun n hn j a => ?_).trans ?_
  · rw [hu n hn j a, hV n hn j a]
    by_cases h : n < N
    · rw [if_pos h, if_pos h, entry_eq U N h, mul_comm]
    · rw [if_neg h, if_neg h, ew_bot_left, zero_div, EReal.coe_zero, zero_mul]
  · exact Finset.sum_congr rfl fun n _ => (sum_rows fun j a => W n j a * entry U N n j a).symm

end Rows

end Cert.Row

end
-- ==== Proof.ReferenceEntries.lean ====
/- The reference's arrays, entry by entry, over the extended reals: the dequantised operands, the masked scaled scores, their softmax,
   the exponent of each block's scale, and the product of the quantised weights with the values. -/
module

public import proofs.«01_k».proof.Proof.Gen.ReferenceIdeal.Skeleton
public import proofs.«01_k».proof.Proof.Words
public import proofs.«01_k».proof.Proof.Row
public import Idealize.ShloMosaic.Lib.Pointwise

@[expose] public section

set_option maxRecDepth 16384

noncomputable section

namespace Cert.ReferenceIdeal.Value

open Cert.ReferenceIdeal Cert.ReferenceIdeal.Gen Cert.Words
open Idealize.ShloMosaic

/-- The dequantised queries, the query heads in groups of five. -/
theorem queries_entry (v0 : Vec Ideal S2x40x12288x128 .fp8e4m3) (v1 : Vec Ideal S2x40x12288x4 .i8) (b : Fin 2) (h : Fin 8) (g : Fin 5) (q : Fin 12288) (d : Fin 128) :
    k0_pay2 (F := Ideal) v0 v1 (ix5 b h g q d)
      = (v0 (ix4 b ⟨h.val * 5 + g.val, by omega⟩ q d) : EReal) * dec (v1 (ix4 b ⟨h.val * 5 + g.val, by omega⟩ q ⟨d.val / 32, by omega⟩)) := by
  rw [← dec_reference]
  pointwise [k0_pay2]
  rfl

/-- The dequantised keys. -/
theorem keys_entry (v0 : Vec Ideal S2x8x12288x128 .fp8e4m3) (v1 : Vec Ideal S2x8x12288x4 .i8) (b : Fin 2) (h : Fin 8) (q : Fin 12288) (d : Fin 128) :
    k0_pay3 (F := Ideal) v0 v1 (ix4 b h q d) = (v0 (ix4 b h q d) : EReal) * dec (v1 (ix4 b h q ⟨d.val / 32, by omega⟩)) := by
  rw [← dec_reference]
  pointwise [k0_pay3]
  rfl

/-- The dequantised values. -/
theorem vals_entry (v0 : Vec Ideal S2x8x128x12288 .fp8e4m3) (v1 : Vec Ideal S2x8x128x384 .i8) (b : Fin 2) (h : Fin 8) (q : Fin 12288) (d : Fin 128) :
    k0_pay6 (F := Ideal) (k0_pay4 v0) (k0_pay5 (F := Ideal) v1) (ix4 b h d q) = (v0 (ix4 b h d q) : EReal) * dec (v1 (ix4 b h d ⟨q.val / 32, by omega⟩)) := by
  rw [← dec_reference]
  pointwise [k0_pay4, k0_pay5, k0_pay6]
  rfl

/-! ## The array operations at an index -/

theorem cast6 (x : FVec Ideal S2x8x5x12288x12288 .f32) (b : Fin 2) (h : Fin 8) (g : Fin 5) (q : Fin 12288) (n : Fin 384) (a : Fin 32) :
    shapeCast S2x8x5x12288x384x32 x shapeCasts_S2x8x5x12288x12288_S2x8x5x12288x384x32 (ix6 b h g q n a) = x (ix5 b h g q ⟨n.val * 32 + a.val, by omega⟩) := by
  pointwise []

theorem row5 (x : FVec Ideal S2x8x5x12288 .f32) (b : Fin 2) (h : Fin 8) (g : Fin 5) (q k : Fin 12288) :
    broadcastTo S2x8x5x12288x12288 (shapeCast S2x8x5x12288x1 x shapeCasts_S2x8x5x12288_S2x8x5x12288x1) broadcasts_S2x8x5x12288x1_S2x8x5x12288x12288 (ix5 b h g q k)
      = x (ix4 b h g q) := by
  pointwise []

theorem max5 (x : FVec Ideal S2x8x5x12288x12288 .f32) (b : Fin 2) (h : Fin 8) (g : Fin 5) (q : Fin 12288) :
    multiReduction .maximumf [4] S2x8x5x12288 x 0xFF800000#32 reduces_S2x8x5x12288x12288_S2x8x5x12288 (.inl rfl) rfl (ix4 b h g q)
      = Finset.univ.fold max (Ideal.ofBits .f32 (0xFF800000#32)) fun k : Fin 12288 => (x (ix5 b h g q k) : EReal) := by
  pointwise []

theorem sum5 (x : FVec Ideal S2x8x5x12288x12288 .f32) (b : Fin 2) (h : Fin 8) (g : Fin 5) (q : Fin 12288) :
    multiReduction .add [4] S2x8x5x12288 x 0x00000000#32 reduces_S2x8x5x12288x12288_S2x8x5x12288 (.inl rfl) rfl (ix4 b h g q)
      = ∑ k : Fin 12288, (x (ix5 b h g q k) : EReal) := by
  pointwise []

theorem mask5 (x : IVec S12288x12288 1) (b : Fin 2) (h : Fin 8) (g : Fin 5) (q k : Fin 12288) :
    broadcastTo S2x8x5x12288x12288 (shapeCast S1x1x1x12288x12288 x shapeCasts_S12288x12288_S1x1x1x12288x12288) broadcasts_S1x1x1x12288x12288_S2x8x5x12288x12288 (ix5 b h g q k)
      = x (ix2 q k) := by
  pointwise []

theorem mm5 (v14 : FVec Ideal S2x8x5x12288x128 .bf16) (v28 : FVec Ideal S2x8x12288x128 .bf16) (b : Fin 2) (h : Fin 8) (g : Fin 5) (q k : Fin 12288) :
    matmul dot_S2x8x5x12288x128_S2x8x12288x128_S2x8x5x12288x12288_4_3_23_2_01_01 none v14 v28 (constant (F := Ideal) S2x8x5x12288x12288 .f32 0x00000000#32) (ix5 b h g q k)
      = ∑ x : Fin 128, (v14 (ix5 b h g q x) : EReal) * v28 (ix4 b h k x) := by
  pointwise []

theorem select_at {s : Shape} (c : IVec s 1) (x y : FVec Ideal s .f32) (i : s.Idx) : select c x y i = Scalar.select (c i) (x i) (y i) := rfl
theorem mulf_at {s : Shape} (x y : FVec Ideal s .f32) (i : s.Idx) : mulf x y i = (x i : EReal) * y i := rfl
theorem subf_at {s : Shape} (x y : FVec Ideal s .f32) (i : s.Idx) : subf x y i = (x i : EReal) - y i := rfl
theorem addf_at {s : Shape} (x y : FVec Ideal s .f32) (i : s.Idx) : addf x y i = (x i : EReal) + y i := rfl
theorem divf_at {s : Shape} (x y : FVec Ideal s .f32) (i : s.Idx) : divf x y i = Ideal.div (x i) (y i) := rfl
theorem exp_at {s : Shape} (x : FVec Ideal s .f32) (i : s.Idx) : exp x i = Ideal.exp (x i) := rfl
theorem log_at {s : Shape} (x : FVec Ideal s .f32) (i : s.Idx) : log x i = Ideal.log (x i) := rfl
theorem floor_at {s : Shape} (x : FVec Ideal s .f32) (i : s.Idx) : floor x i = Ideal.liftRound Int.floor (x i) := rfl
theorem abs_at {s : Shape} (x : FVec Ideal s .f32) (i : s.Idx) : absf x i = max (x i : EReal) (-(x i)) := rfl
theorem max_at {s : Shape} (x y : FVec Ideal s .f32) (i : s.Idx) : maximumf x y i = max (x i : EReal) (y i) := rfl
theorem oeq_at {s : Shape} (x y : FVec Ideal s .f32) (i : s.Idx) : cmpf .oeq x y i = Ideal.cmp .oeq (x i) (y i) := rfl
theorem sle_at {s : Shape} (x y : IVec s 32) (i : s.Idx) : cmpi .sle x y i = IntOp.cmpi .sle (x i) (y i) := rfl
theorem splat_at {s : Shape} (x : EReal) (i : s.Idx) : (broadcast s (x : Ideal .f32) : FVec Ideal s .f32) i = x := rfl
theorem scale_const : (Named.named (F := Ideal) κ "score_scale" (φ := .f32) 0x3DB504F3#32 : EReal) = (Cert.Row.scl : EReal) := rfl
theorem fp8_const : (Named.named (F := Ideal) κ "inv_fp8_max" (φ := .f32) 0x3B124925#32 : EReal) = ((1 / 448 : ℝ) : EReal) := rfl
theorem log2e_const : (Named.named (F := Ideal) κ "log2e" (φ := .f32) 0x3FB8AA3B#32 : EReal) = (((Real.log 2)⁻¹ : ℝ) : EReal) := rfl
theorem bits_const (b : BitVec 32) : (Scalar.ofBits (F := Ideal) .f32 b : EReal) = Ideal.ofBits .f32 b := rfl

theorem neg_inf : Ideal.ofBits .f32 0xFF800000#32 = ⊥ := by
  show Ideal.ieee 8 23 (0xFF800000#32) = _
  unfold Ideal.ieee
  dsimp only
  simp

/-- The key's number at an index of the mask. -/
theorem iota_key (q k : Fin 12288) : iota .tc S12288x12288 32 [1] iota_S12288x12288_d1_w32 (ix2 q k) = BitVec.ofNat 32 k.val := by
  pointwise []

/-- The query's number at an index of the mask. -/
theorem iota_query (q k : Fin 12288) : iota .tc S12288x12288 32 [0] iota_S12288x12288_d0_w32 (ix2 q k) = BitVec.ofNat 32 q.val := by
  pointwise []

theorem toInt_ofNat {a : ℕ} (h : a < 12288) : (BitVec.ofNat 32 a).toInt = a := by
  rw [BitVec.toInt_eq_toNat_cond, BitVec.toNat_ofNat, Nat.mod_eq_of_lt (by omega), if_pos (by omega)]

theorem sle_ofNat {a b : ℕ} (ha : a < 12288) (hb : b < 12288) :
    IntOp.cmpi .sle (BitVec.ofNat 32 a) (BitVec.ofNat 32 b) = if a ≤ b then 1#1 else 0#1 := by
  have h : (BitVec.ofNat 32 a).sle (BitVec.ofNat 32 b) = decide (a ≤ b) := by
    rw [Bool.eq_iff_iff, BitVec.sle_iff_toInt_le, decide_eq_true_iff, toInt_ofNat ha, toInt_ofNat hb]
    omega
  show BitVec.ofBool ((BitVec.ofNat 32 a).sle (BitVec.ofNat 32 b)) = _
  rw [h]
  by_cases e : a ≤ b <;> simp [e]

/-- The score of a key against a query: their product, least where the key is beyond the query. -/
def score (v14 : FVec Ideal S2x8x5x12288x128 .bf16) (v28 : FVec Ideal S2x8x12288x128 .bf16) (b : Fin 2) (h : Fin 8) (g : Fin 5) (q k : Fin 12288) : EReal :=
  if k.val ≤ q.val then ∑ x : Fin 128, (v14 (ix5 b h g q x) : EReal) * v28 (ix4 b h k x) else ⊥

theorem scaled (p : Prop) [Decidable p] (x : EReal) :
    (Scalar.select (if p then 1#1 else 0#1) (x * (Cert.Row.scl : EReal)) ⊥ : EReal) = (if p then x else ⊥) * (Cert.Row.scl : EReal) := by
  by_cases h : p
  · rw [if_pos h, if_pos h]; rfl
  · rw [if_neg h, if_neg h, EReal.bot_mul_coe_of_pos Cert.Row.scl_pos]; rfl

theorem fold_max (f : Fin 12288 → EReal) : Finset.univ.fold max (⊥ : EReal) f = Finset.univ.sup f := rfl

/-- The masked scaled scores. -/
def masked (v14 : FVec Ideal S2x8x5x12288x128 .bf16) (v28 : FVec Ideal S2x8x12288x128 .bf16) : FVec Ideal S2x8x5x12288x12288 .f32 :=
  select (broadcastTo S2x8x5x12288x12288 (shapeCast S1x1x1x12288x12288
      (cmpi .sle (iota .tc S12288x12288 32 [1] iota_S12288x12288_d1_w32) (iota .tc S12288x12288 32 [0] iota_S12288x12288_d0_w32))
      shapeCasts_S12288x12288_S1x1x1x12288x12288) broadcasts_S1x1x1x12288x12288_S2x8x5x12288x12288)
    (mulf (matmul dot_S2x8x5x12288x128_S2x8x12288x128_S2x8x5x12288x12288_4_3_23_2_01_01 none v14 v28 (constant (F := Ideal) S2x8x5x12288x12288 .f32 0x00000000#32))
      (broadcast S2x8x5x12288x12288 (Named.named (F := Ideal) κ "score_scale" (φ := .f32) 0x3DB504F3#32)))
    (broadcast S2x8x5x12288x12288 (Scalar.ofBits (F := Ideal) .f32 0xFF800000#32))

theorem masked_entry (v14 : FVec Ideal S2x8x5x12288x128 .bf16) (v28 : FVec Ideal S2x8x12288x128 .bf16) (b : Fin 2) (h : Fin 8) (g : Fin 5) (q k : Fin 12288) :
    masked v14 v28 (ix5 b h g q k) = score v14 v28 b h g q k * (Cert.Row.scl : EReal) := by
  unfold masked
  rw [select_at, mask5, sle_at, iota_key, iota_query, mulf_at, mm5, splat_at, splat_at, bits_const, neg_inf, scale_const, sle_ofNat k.isLt q.isLt, scaled]
  rfl

/-- A row's greatest, a minus infinity thrown in. -/
def rowTop (x : FVec Ideal S2x8x5x12288x12288 .f32) : FVec Ideal S2x8x5x12288 .f32 :=
  maximumf (broadcast S2x8x5x12288 (Scalar.ofBits (F := Ideal) .f32 0xFF800000#32))
    (multiReduction .maximumf [4] S2x8x5x12288 x 0xFF800000#32 reduces_S2x8x5x12288x12288_S2x8x5x12288 (.inl rfl) rfl)

theorem rowTop_entry (x : FVec Ideal S2x8x5x12288x12288 .f32) (b : Fin 2) (h : Fin 8) (g : Fin 5) (q : Fin 12288) :
    rowTop x (ix4 b h g q) = Finset.univ.sup fun k : Fin 12288 => (x (ix5 b h g q k) : EReal) := by
  unfold rowTop
  rw [max_at, splat_at, bits_const, neg_inf, max5, neg_inf]
  exact bot_sup_eq _

/-- The exponentials of a row less its greatest. -/
def rowExp (x : FVec Ideal S2x8x5x12288x12288 .f32) : FVec Ideal S2x8x5x12288x12288 .f32 :=
  exp (subf x (broadcastTo S2x8x5x12288x12288 (shapeCast S2x8x5x12288x1 (rowTop x) shapeCasts_S2x8x5x12288_S2x8x5x12288x1) broadcasts_S2x8x5x12288x1_S2x8x5x12288x12288))

theorem rowExp_entry (x : FVec Ideal S2x8x5x12288x12288 .f32) (b : Fin 2) (h : Fin 8) (g : Fin 5) (q k : Fin 12288) :
    rowExp x (ix5 b h g q k) = Ideal.exp ((x (ix5 b h g q k) : EReal) - Finset.univ.sup fun k : Fin 12288 => (x (ix5 b h g q k) : EReal)) := by
  unfold rowExp
  rw [exp_at, subf_at, row5, rowTop_entry]

/-- The softmax of a row, keys in blocks. -/
def rowSoft (x : FVec Ideal S2x8x5x12288x12288 .f32) : FVec Ideal S2x8x5x12288x384x32 .f32 :=
  shapeCast S2x8x5x12288x384x32 (divf (rowExp x) (broadcastTo S2x8x5x12288x12288 (shapeCast S2x8x5x12288x1
    (multiReduction .add [4] S2x8x5x12288 (rowExp x) 0x00000000#32 reduces_S2x8x5x12288x12288_S2x8x5x12288 (.inl rfl) rfl)
    shapeCasts_S2x8x5x12288_S2x8x5x12288x1) broadcasts_S2x8x5x12288x1_S2x8x5x12288x12288)) shapeCasts_S2x8x5x12288x12288_S2x8x5x12288x384x32

theorem soft_eq (v14 : FVec Ideal S2x8x5x12288x128 .bf16) (v28 : FVec Ideal S2x8x12288x128 .bf16) :
    k0_pay7 (F := Ideal) v14 v28 = rowSoft (masked v14 v28) := by
  unfold k0_pay7 rowSoft rowExp rowTop masked
  dsimp only

/-- The softmax of the masked scaled scores, keys in blocks of thirty-two. -/
theorem soft_entry (v14 : FVec Ideal S2x8x5x12288x128 .bf16) (v28 : FVec Ideal S2x8x12288x128 .bf16) (b : Fin 2) (h : Fin 8) (g : Fin 5) (q : Fin 12288) (n : Fin 384) (a : Fin 32) :
    k0_pay7 (F := Ideal) v14 v28 (ix6 b h g q n a) = Cert.Row.soft (score v14 v28 b h g q) ⟨n.val * 32 + a.val, by omega⟩ := by
  rw [soft_eq]
  unfold rowSoft
  rw [cast6, divf_at, row5, sum5]
  simp only [rowExp_entry, masked_entry]
  rfl

/-! ## The exponent of a block's scale -/

section reduce6
variable {n0 n1 n2 n3 n4 n5 : Nat}

theorem fiber6 (h : (⟨6, ![n0, n1, n2, n3, n4, n5]⟩ : Shape).Reduces [5] ⟨5, ![n0, n1, n2, n3, n4]⟩) (b : Fin n0) (c : Fin n1) (d : Fin n2) (e : Fin n3) (f : Fin n4)
    (i : (⟨6, ![n0, n1, n2, n3, n4, n5]⟩ : Shape).Idx) : h.drop i = ix5 b c d e f ↔ ∃ k : Fin n5, ix6 b c d e f k = i := by
  constructor
  · intro w
    refine ⟨i 5, ?_⟩
    funext a; apply Fin.ext
    match a with
    | ⟨0, _⟩ => exact (congrArg Fin.val (congrFun w 0)).symm
    | ⟨1, _⟩ => exact (congrArg Fin.val (congrFun w 1)).symm
    | ⟨2, _⟩ => exact (congrArg Fin.val (congrFun w 2)).symm
    | ⟨3, _⟩ => exact (congrArg Fin.val (congrFun w 3)).symm
    | ⟨4, _⟩ => exact (congrArg Fin.val (congrFun w 4)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

theorem fold6 (h : (⟨6, ![n0, n1, n2, n3, n4, n5]⟩ : Shape).Reduces [5] ⟨5, ![n0, n1, n2, n3, n4]⟩) (b : Fin n0) (c : Fin n1) (d : Fin n2) (e : Fin n3) (f : Fin n4)
    (x : EReal) (v : (⟨6, ![n0, n1, n2, n3, n4, n5]⟩ : Shape).Idx → EReal) :
    (Finset.univ.filter fun i => h.drop i = ix5 b c d e f).fold max x v = (Finset.univ : Finset (Fin n5)).fold max x fun k => v (ix6 b c d e f k) :=
  Finset.fold_filter_eq_fold_of_fiber max _ (fun k : Fin n5 => ix6 b c d e f k) (fun _ _ w => congrFun w 5) (fiber6 h b c d e f) x v

end reduce6

theorem max6 (x : FVec Ideal S2x8x5x12288x384x32 .f32) (b : Fin 2) (h : Fin 8) (g : Fin 5) (q : Fin 12288) (n : Fin 384) :
    multiReduction .maximumf [5] S2x8x5x12288x384 x 0xFF800000#32 reduces_S2x8x5x12288x384x32_S2x8x5x12288x384 (.inl rfl) rfl (ix5 b h g q n)
      = Finset.univ.sup fun a : Fin 32 => (x (ix6 b h g q n a) : EReal) := by
  pointwise []
  rw [neg_inf]
  exact fold6 reduces_S2x8x5x12288x384x32_S2x8x5x12288x384 b h g q n ⊥ x

/-- The exponent of a block's scale from the block's greatest magnitude. -/
def expoOf (x : FVec Ideal S2x8x5x12288x384 .f32) : FVec Ideal S2x8x5x12288x384 .f32 :=
  select (cmpf .oeq x (broadcast S2x8x5x12288x384 (Scalar.ofBits (F := Ideal) .f32 0x00000000#32)))
    (broadcast S2x8x5x12288x384 (Scalar.ofBits (F := Ideal) .f32 0x00000000#32))
    (addf (floor (mulf (log (mulf x (broadcast S2x8x5x12288x384 (Named.named (F := Ideal) κ "inv_fp8_max" (φ := .f32) 0x3B124925#32))))
      (broadcast S2x8x5x12288x384 (Named.named (F := Ideal) κ "log2e" (φ := .f32) 0x3FB8AA3B#32))))
      (broadcast S2x8x5x12288x384 (Scalar.ofBits (F := Ideal) .f32 0x3F800000#32)))

theorem zero_bits : Ideal.ofBits .f32 0x00000000#32 = 0 := by simp
theorem one_bits : Ideal.ofBits .f32 0x3F800000#32 = 1 := by simp

theorem expoOf_entry (x : FVec Ideal S2x8x5x12288x384 .f32) (i : S2x8x5x12288x384.Idx) : expoOf x i = Cert.Row.expo (x i) := by
  unfold expoOf Cert.Row.expo
  rw [select_at, oeq_at, addf_at, floor_at, mulf_at, log_at, mulf_at, splat_at, splat_at, splat_at, splat_at, bits_const, bits_const, zero_bits, one_bits, fp8_const, log2e_const]

theorem expo_eq (v14 : FVec Ideal S2x8x5x12288x128 .bf16) (v28 : FVec Ideal S2x8x12288x128 .bf16) :
    k0_pay8 (F := Ideal) v14 v28 = expoOf (multiReduction .maximumf [5] S2x8x5x12288x384 (absf (k0_pay7 (F := Ideal) v14 v28)) 0xFF800000#32
      reduces_S2x8x5x12288x384x32_S2x8x5x12288x384 (.inl rfl) rfl) := by
  unfold k0_pay8 expoOf
  generalize k0_pay7 v14 v28 = y
  dsimp only

theorem expo_of (y : FVec Ideal S2x8x5x12288x384x32 .f32) (b : Fin 2) (h : Fin 8) (g : Fin 5) (q : Fin 12288) (n : Fin 384) :
    expoOf (multiReduction .maximumf [5] S2x8x5x12288x384 (absf y) 0xFF800000#32 reduces_S2x8x5x12288x384x32_S2x8x5x12288x384 (.inl rfl) rfl) (ix5 b h g q n)
      = Cert.Row.expo (Finset.univ.sup fun a : Fin 32 => max (y (ix6 b h g q n a) : EReal) (-(y (ix6 b h g q n a) : EReal))) := by
  rw [expoOf_entry, max6]
  exact congrArg Cert.Row.expo (Finset.sup_congr rfl fun a _ => abs_at y _)

/-- The exponent of a block's scale: from the greatest magnitude of the block's softmax. -/
theorem expo_entry (v14 : FVec Ideal S2x8x5x12288x128 .bf16) (v28 : FVec Ideal S2x8x12288x128 .bf16) (b : Fin 2) (h : Fin 8) (g : Fin 5) (q : Fin 12288) (n : Fin 384) :
    k0_pay8 (F := Ideal) v14 v28 (ix5 b h g q n)
      = Cert.Row.expo (Finset.univ.sup fun a : Fin 32 =>
          max (Cert.Row.soft (score v14 v28 b h g q) ⟨n.val * 32 + a.val, by omega⟩) (-Cert.Row.soft (score v14 v28 b h g q) ⟨n.val * 32 + a.val, by omega⟩)) := by
  have e : ∀ a : Fin 32, (k0_pay7 (F := Ideal) v14 v28 (ix6 b h g q n a) : EReal) = Cert.Row.soft (score v14 v28 b h g q) ⟨n.val * 32 + a.val, by omega⟩ :=
    fun a => soft_entry v14 v28 b h g q n a
  rw [expo_eq]
  generalize k0_pay7 (F := Ideal) v14 v28 = y at e ⊢
  refine (expo_of y b h g q n).trans (congrArg Cert.Row.expo (Finset.sup_congr rfl fun a _ => ?_))
  rw [e a]

/-! ## The result -/

theorem neg_448 : Ideal.ofBits .f32 0xC3E00000#32 = ((-448 : ℝ) : EReal) := by
  show Ideal.ieee 8 23 (0xC3E00000#32) = _
  unfold Ideal.ieee
  dsimp only
  rw [show ((0xC3E00000#32).extractLsb' (8 + 23) 1 == 1#1) = true by decide,
    show ((0xC3E00000#32).extractLsb' 23 8).toNat = 135 by decide, show ((0xC3E00000#32).extractLsb' 0 23).toNat = 6291456 by decide,
    if_neg (by decide), if_neg (by decide)]
  refine congrArg (fun r : ℝ => (r : EReal)) ?_
  norm_num [zpow_neg]

/-- The product of the quantised row and the values, the zero of the exponent's difference still an array. -/
theorem product_raw (v42 : FVec Ideal S2x8x128x12288 .bf16) (v64 : FVec Ideal S2x8x5x12288x384x32 .f32) (v78 v79 : FVec Ideal S2x8x5x12288x384 .f32)
    (b : Fin 2) (h : Fin 40) (q : Fin 12288) (d : Fin 128) :
    k0_pay1 (F := Ideal) v42 v64 v78 v79 (ix4 b h q d)
      = ∑ k : Fin 12288, min (Ideal.ofBits .f32 1138753536#32) (max (Ideal.ofBits .f32 3286237184#32) (v64 (ix6 b ⟨h.val / 5, by omega⟩ ⟨h.val % 5, by omega⟩ q ⟨k.val / 32, by omega⟩ ⟨k.val % 32, by omega⟩)
            * Ideal.exp2 (v79 (ix5 b ⟨h.val / 5, by omega⟩ ⟨h.val % 5, by omega⟩ q ⟨k.val / 32, by omega⟩) - v78 (ix5 b ⟨h.val / 5, by omega⟩ ⟨h.val % 5, by omega⟩ q ⟨k.val / 32, by omega⟩))))
          * Ideal.exp2 (v78 (ix5 b ⟨h.val / 5, by omega⟩ ⟨h.val % 5, by omega⟩ q ⟨k.val / 32, by omega⟩)) * v42 (ix4 b ⟨h.val / 5, by omega⟩ d k) := by
  pointwise [k0_pay1]
  rfl

theorem pay9_zero (i : S2x8x5x12288x384.Idx) : (k0_pay9 (F := Ideal) i : EReal) = 0 := zero_bits

/-- The result: the quantised row comes to the weights over their sum, against the values. -/
theorem result_entry (v42 : FVec Ideal S2x8x128x12288 .bf16) (v14 : FVec Ideal S2x8x5x12288x128 .bf16) (v28 : FVec Ideal S2x8x12288x128 .bf16)
    (b : Fin 2) (h : Fin 40) (q : Fin 12288) (d : Fin 128) (u : Fin 12288 → EReal) (hu : u = score v14 v28 b ⟨h.val / 5, by omega⟩ ⟨h.val % 5, by omega⟩ q) :
    k0_pay1 (F := Ideal) v42 (k0_pay7 v14 v28) (k0_pay8 v14 v28) (k0_pay9 (F := Ideal)) (ix4 b h q d)
      = ∑ k : Fin 12288, ((Cert.Row.ew (u k) (Cert.Row.best u) / ∑ k', Cert.Row.ew (u k') (Cert.Row.best u) : ℝ) : EReal) * v42 (ix4 b ⟨h.val / 5, by omega⟩ d k) := by
  subst hu
  have e7 := soft_entry v14 v28 b ⟨h.val / 5, by omega⟩ ⟨h.val % 5, by omega⟩ q
  have e8 := expo_entry v14 v28 b ⟨h.val / 5, by omega⟩ ⟨h.val % 5, by omega⟩ q
  have e9 := pay9_zero
  generalize k0_pay7 (F := Ideal) v14 v28 = y at e7 ⊢
  generalize k0_pay8 (F := Ideal) v14 v28 = z at e8 ⊢
  generalize k0_pay9 (F := Ideal) = w at e9 ⊢
  generalize score v14 v28 b ⟨h.val / 5, by omega⟩ ⟨h.val % 5, by omega⟩ q = u at e7 e8 ⊢
  refine (product_raw v42 y z w b h q d).trans (Finset.sum_congr rfl fun k _ => ?_)
  refine congrArg (· * _) ?_
  rw [e7 ⟨k.val / 32, by omega⟩ ⟨k.val % 32, by omega⟩, e8 ⟨k.val / 32, by omega⟩, e9, ofBits_448, neg_448]
  have ek : (⟨k.val / 32 * 32 + k.val % 32, by omega⟩ : Fin 12288) = k := Fin.ext (by show k.val / 32 * 32 + k.val % 32 = k.val; omega)
  have hq := Cert.Row.quant_soft u (fun a : Fin 32 => (⟨k.val / 32 * 32 + a.val, by omega⟩ : Fin 12288)) ⟨k.val % 32, by omega⟩
  simp only [ek] at hq
  rw [← hq]
  unfold Cert.Row.quant
  rw [ek]

end Cert.ReferenceIdeal.Value

end
-- ==== Proof.ReferenceRun.lean ====
/- The reference's run: its result array is its one point's payload of the argument arrays. -/
module

public import proofs.«01_k».proof.Proof.Gen.ReferenceIdeal.Frame
public import proofs.«01_k».proof.Proof.ReferenceEntries
public import Idealize.ShloMosaic.Lib.Pipeline.ValueKit
public import Idealize.ShloMosaic.Adequacy

@[expose] public section

set_option maxRecDepth 16384

noncomputable section

namespace Cert.ReferenceIdeal.Value

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The result as a function of the arguments. -/
def outOf (x0 : Vec Ideal S2x40x12288x128 .fp8e4m3) (x1 : Vec Ideal S2x40x12288x4 .i8) (x2 : Vec Ideal S2x8x12288x128 .fp8e4m3) (x3 : Vec Ideal S2x8x12288x4 .i8)
    (x4 : Vec Ideal S2x8x128x12288 .fp8e4m3) (x5 : Vec Ideal S2x8x128x384 .i8) : Vec Ideal S2x40x12288x128 .bf16 :=
  k0_pay1 (F := Ideal) (k0_pay6 (k0_pay4 x4) (k0_pay5 (F := Ideal) x5)) (k0_pay7 (k0_pay2 x0 x1) (k0_pay3 x2 x3)) (k0_pay8 (k0_pay2 x0 x1) (k0_pay3 x2 x3)) (k0_pay9 (F := Ideal))

/-- The body's result of its blocks. -/
theorem out_eq (x0 : Vec Ideal S2x40x12288x128 .fp8e4m3) (x1 : Vec Ideal S2x40x12288x4 .i8) (x2 : Vec Ideal S2x8x12288x128 .fp8e4m3) (x3 : Vec Ideal S2x8x12288x4 .i8)
    (x4 : Vec Ideal S2x8x128x12288 .fp8e4m3) (x5 : Vec Ideal S2x8x128x384 .i8) : out0_6 (F := Ideal) x0 x1 x2 x3 x4 x5 = outOf x0 x1 x2 x3 x4 x5 := by
  unfold out0_6 k0_pay10 k0_pay11 outOf
  rw [View.ld_unit_lit _ x0 (by decide), View.ld_unit_lit _ x1 (by decide), View.ld_unit_lit _ x2 (by decide), View.ld_unit_lit _ x3 (by decide),
    View.ld_unit_lit _ x4 (by decide), View.ld_unit_lit _ x5 (by decide), View.canon_cons_unit_lit _ _ _ (by decide)]

/-- Every window's block index at the one point. -/
theorem idx0 : ∀ t : Fin cfg0.N, win0_0.index t = ![0, 0, 0, 0] := (by decide +kernel : ∀ t : Fin grid0.N, _)
theorem idx1 : ∀ t : Fin cfg0.N, win0_1.index t = ![0, 0, 0, 0] := (by decide +kernel : ∀ t : Fin grid0.N, _)
theorem idx2 : ∀ t : Fin cfg0.N, win0_2.index t = ![0, 0, 0, 0] := (by decide +kernel : ∀ t : Fin grid0.N, _)
theorem idx3 : ∀ t : Fin cfg0.N, win0_3.index t = ![0, 0, 0, 0] := (by decide +kernel : ∀ t : Fin grid0.N, _)
theorem idx4 : ∀ t : Fin cfg0.N, win0_4.index t = ![0, 0, 0, 0] := (by decide +kernel : ∀ t : Fin grid0.N, _)
theorem idx5 : ∀ t : Fin cfg0.N, win0_5.index t = ![0, 0, 0, 0] := (by decide +kernel : ∀ t : Fin grid0.N, _)
theorem idx6 : ∀ t : Fin cfg0.N, win0_6.index t = ![0, 0, 0, 0] := (by decide +kernel : ∀ t : Fin grid0.N, _)

theorem blk0 (c : Dev nD) (t : Fin cfg0.N) : iblk m c 0 t = m ((c : Thread nD τ).loc main_arg0) := by blk_ext! [iblk, V, idx0 t]
theorem blk1 (c : Dev nD) (t : Fin cfg0.N) : iblk m c 1 t = m ((c : Thread nD τ).loc main_arg1) := by blk_ext! [iblk, V, idx1 t]
theorem blk2 (c : Dev nD) (t : Fin cfg0.N) : iblk m c 2 t = m ((c : Thread nD τ).loc main_arg2) := by blk_ext! [iblk, V, idx2 t]
theorem blk3 (c : Dev nD) (t : Fin cfg0.N) : iblk m c 3 t = m ((c : Thread nD τ).loc main_arg3) := by blk_ext! [iblk, V, idx3 t]
theorem blk4 (c : Dev nD) (t : Fin cfg0.N) : iblk m c 4 t = m ((c : Thread nD τ).loc main_arg4) := by blk_ext! [iblk, V, idx4 t]
theorem blk5 (c : Dev nD) (t : Fin cfg0.N) : iblk m c 5 t = m ((c : Thread nD τ).loc main_arg5) := by blk_ext! [iblk, V, idx5 t]

/-- The result array of the run. -/
def result (c : Dev nD) : Vec Ideal S2x40x12288x128 .bf16 :=
  outOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem final (c : Dev nD) : (dats m 0 c).arrAt 6 cfg0.N = result m c := by
  refine (dats m 0 c).arrAt_eq_of_after_last 6 t0_0 (by decide +kernel) _ fun j => ?_
  blk_simp
  rw [after0_6, out_eq, blk0, blk1, blk2, blk3, blk4, blk5]
  rfl

/-- The value of the reference: every execution terminates with the result array at `result`. -/
theorem run_result : θ_run defs (onTc (τ := τ) (main (F := Ideal))) (s₀ m ρ) (fun r => ∀ c : Dev nD,
    r.2.mem ((c.tc : Thread nD τ).loc main_v0) = result m c) :=
  (θ_run defs _ _).mono (fun _ h c => (Pipeline.FramePost.out_eq h c 6).trans (final m c)) (run_main m ρ)

end Cert.ReferenceIdeal.Value

end
-- ==== Proof.Algebra.lean ====
/- The kernel's result array is the reference's, element by element, where no scale's byte is zero or 255. -/
module

public import proofs.«01_k».proof.Proof.KernelValue
public import proofs.«01_k».proof.Proof.Operands
public import proofs.«01_k».proof.Proof.Equation
public import proofs.«01_k».proof.Proof.ReferenceRun
public import proofs.«01_k».proof.Proof.KernelIdealFrame
public import proofs.«01_k».proof.Defs
public import Idealize.ShloMosaic.Lib.Claim
public import Idealize.ShloMosaic.Adequacy

@[expose] public section

set_option maxRecDepth 16384

noncomputable section

namespace Cert.Algebra

open Cert.Words Cert.KernelIdeal.Value
open Idealize.ShloMosaic Idealize.ShloMosaic.TcCoe Idealize.SL.Sem

section Arrays

open Cert.KernelIdeal

variable (x0 : Vec Ideal S2x40x12288x128 .fp8e4m3) (x1 : Vec Ideal S2x40x12288x4 .i8) (x2 : Vec Ideal S2x8x12288x128 .fp8e4m3) (x3 : Vec Ideal S2x8x12288x4 .i8)
  (x4 : Vec Ideal S2x8x128x12288 .fp8e4m3) (x5 : Vec Ideal S2x8x128x384 .i8) (w5 : Vec Ideal S2x8x48x128x8 .i8)
  (h1 : ∀ i, Normal (x1 i)) (h3 : ∀ i, Normal (x3 i)) (h5 : ∀ i, Normal (x5 i))
  (hw : ∀ b h n d j, w5 (ix5 b h n d j) = x5 (ix4 b h d ⟨n.val * 8 + j.val, by omega⟩))

include h1 h3

/-- The reference's scores are the kernel's, tile by tile, and least beyond the query's tile. -/
theorem scores_eq (b : Fin 2) (h : Fin 40) (n : Fin 48) (c : Fin 256) (t : ℕ) (ht : t < 48) (j : Fin 8) (a : Fin 32) :
    Cert.ReferenceIdeal.Value.score (Cert.ReferenceIdeal.Gen.k0_pay2 (F := Ideal) x0 x1) (Cert.ReferenceIdeal.Gen.k0_pay3 (F := Ideal) x2 x3) b
        ⟨h.val / 5, by omega⟩ ⟨h.val % 5, by omega⟩ ⟨256 * n.val + c.val, by omega⟩ (Row.key t ht j a)
      = if t < n.val + 1 then scores (qBlock x0 b h n) (qsBlock x1 b h n) (keyTile (kBlock x2 b ⟨h.val / 5, by omega⟩) (ksBlock x3 b ⟨h.val / 5, by omega⟩)) n.val c t j a
        else ⊥ := by
  unfold Cert.ReferenceIdeal.Value.score scores
  have hkv : (Row.key t ht j a).val = 256 * t + 32 * j.val + a.val := rfl
  have hh : (⟨(⟨h.val / 5, by omega⟩ : Fin 8).val * 5 + (⟨h.val % 5, by omega⟩ : Fin 5).val, by omega⟩ : Fin 40) = h :=
    Fin.ext (by show h.val / 5 * 5 + h.val % 5 = h.val; omega)
  by_cases hc : t < n.val ∨ (t = n.val ∧ j.val * 32 + a.val ≤ c.val)
  · rw [if_pos (by show (Row.key t ht j a).val ≤ 256 * n.val + c.val; rw [hkv]; omega), if_pos (by omega), if_pos (by omega)]
    unfold sc
    refine Finset.sum_congr rfl fun x _ => ?_
    have hq := queries_entry (qBlock x0 b h n) (qsBlock x1 b h n) c x (h1 _)
    have hk := keyTile_entry x2 x3 b ⟨h.val / 5, by omega⟩ t ht ⟨a.val * 8 + j.val, by omega⟩ x (Row.key t ht j a)
      (by rw [hkv]; show _ = 256 * t + keyOf (a.val * 8 + j.val); unfold keyOf; omega) (h3 _)
    rw [hq, hk, Cert.ReferenceIdeal.Value.queries_entry, Cert.ReferenceIdeal.Value.keys_entry, hh, mul_comm]
    rfl
  · rw [if_neg (by show ¬ (Row.key t ht j a).val ≤ 256 * n.val + c.val; rw [hkv]; omega)]
    by_cases hn : t < n.val + 1
    · rw [if_pos hn, if_neg (by omega)]
    · rw [if_neg hn]

include h5 hw

/-- A query tile's block of results is the reference's. -/
theorem block_eq (b : Fin 2) (h : Fin 40) (n : Fin 48) (c : Fin 256) (d : Fin 128) :
    bodyOut (qBlock x0 b h n) (qsBlock x1 b h n) (keyTile (kBlock x2 b ⟨h.val / 5, by omega⟩) (ksBlock x3 b ⟨h.val / 5, by omega⟩))
        (valTile (vBlock x4 b ⟨h.val / 5, by omega⟩) (vsBlock w5 b ⟨h.val / 5, by omega⟩)) n.val (ix4 0 0 c d)
      = Cert.ReferenceIdeal.Value.outOf x0 x1 x2 x3 x4 x5 (ix4 b h ⟨256 * n.val + c.val, by omega⟩ d) := by
  rw [body_entry]
  unfold Cert.ReferenceIdeal.Value.outOf
  rw [Cert.ReferenceIdeal.Value.result_entry _ _ _ b h _ d _ rfl]
  refine Eq.trans ?_ (Row.rows_eq (scores (qBlock x0 b h n) (qsBlock x1 b h n) (keyTile (kBlock x2 b ⟨h.val / 5, by omega⟩) (ksBlock x3 b ⟨h.val / 5, by omega⟩)) n.val c)
    (n.val + 1) (by omega) _ (scores_eq x0 x1 x2 x3 h1 h3 b h n c) _
    (fun t j a => valTile (vBlock x4 b ⟨h.val / 5, by omega⟩) (vsBlock w5 b ⟨h.val / 5, by omega⟩) t (ix3 0 d ⟨a.val * 8 + j.val, by omega⟩)) ?_).symm
  · refine Finset.sum_congr rfl fun t _ => Finset.sum_congr rfl fun r _ => congrArg (· * _) ?_
    have e : (⟨r.val / 8 * 8 + r.val % 8, by omega⟩ : Fin 256) = r := Fin.ext (by show r.val / 8 * 8 + r.val % 8 = r.val; omega)
    show _ = valTile _ _ t (ix3 0 d ⟨r.val / 8 * 8 + r.val % 8, by omega⟩)
    rw [e]
  · intro t ht j a
    have hkv : (Row.key t ht j a).val = 256 * t + 32 * j.val + a.val := rfl
    have hs : w5 (ix5 b ⟨h.val / 5, by omega⟩ ⟨t, ht⟩ d ⟨(a.val * 8 + j.val) % 8, by omega⟩) = x5 (ix4 b ⟨h.val / 5, by omega⟩ d ⟨(Row.key t ht j a).val / 32, by omega⟩) := by
      rw [hw]
      refine congrArg x5 (congrArg (ix4 b _ d) (Fin.ext ?_))
      show t * 8 + (a.val * 8 + j.val) % 8 = (256 * t + 32 * j.val + a.val) / 32
      have e1 : (a.val * 8 + j.val) % 8 = j.val := by omega
      have e2 : (256 * t + 32 * j.val + a.val) / 32 = 8 * t + j.val := by omega
      rw [e1, e2, mul_comm]
    have hv := valTile_entry x4 w5 b ⟨h.val / 5, by omega⟩ t ht ⟨a.val * 8 + j.val, by omega⟩ d (Row.key t ht j a)
      (by rw [hkv]; show _ = 256 * t + keyOf (a.val * 8 + j.val); unfold keyOf; omega) (by rw [hs]; exact h5 _)
    rw [Cert.ReferenceIdeal.Value.vals_entry]
    refine Eq.trans ?_ hv.symm
    rw [hs]

end Arrays

/-- The bits of the precondition say that a byte is neither zero nor 255. -/
theorem normal_of_bits (a : BitVec 8) (h : IntOp.andi (IntOp.cmpi .ugt a 0#8) (IntOp.cmpi .ult a 255#8) = 1#1) : Normal a := by
  have e : IntOp.andi (IntOp.cmpi .ugt a 0#8) (IntOp.cmpi .ult a 255#8) = BitVec.ofBool ((0#8).ult a) &&& BitVec.ofBool (a.ult 255#8) := rfl
  rw [e] at h
  have h1 : (0#8).ult a = true := by
    by_contra w
    rw [Bool.not_eq_true] at w
    rw [w] at h
    simp at h
  have h2 : a.ult 255#8 = true := by
    by_contra w
    rw [Bool.not_eq_true] at w
    rw [w] at h
    simp at h
  rw [BitVec.ult_iff_lt, BitVec.lt_def] at h1 h2
  exact ⟨h1, h2⟩

/-- The kernel's result is the reference's result of the same arrays. -/
theorem result_eq (m : (ℓ : Loc Cert.KernelIdeal.nD Cert.KernelIdeal.τ Cert.KernelIdeal.sig) → Buf (Elt Ideal) ℓ) (c : Dev Cert.KernelIdeal.nD)
    (h1 : ∀ i, Normal ((m ((c.tc : Thread Cert.KernelIdeal.nD Cert.KernelIdeal.τ).loc Cert.KernelIdeal.main_arg1) : Vec Ideal Cert.KernelIdeal.S2x40x12288x4 .i8) i))
    (h3 : ∀ i, Normal ((m ((c.tc : Thread Cert.KernelIdeal.nD Cert.KernelIdeal.τ).loc Cert.KernelIdeal.main_arg3) : Vec Ideal Cert.KernelIdeal.S2x8x12288x4 .i8) i))
    (h5 : ∀ i, Normal ((m ((c.tc : Thread Cert.KernelIdeal.nD Cert.KernelIdeal.τ).loc Cert.KernelIdeal.main_arg5) : Vec Ideal Cert.KernelIdeal.S2x8x128x384 .i8) i)) :
    Cert.KernelIdeal.Value.result m c
      = Cert.ReferenceIdeal.Value.outOf (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  funext i
  obtain ⟨b, h, q, d, rfl⟩ : ∃ b h q d, i = ix4 b h q d := ⟨i 0, i 1, i 2, i 3, eq_ix4 i⟩
  have hlt := q.isLt
  have e := block_eq _ _ _ _ h1 h3 h5 (scales_laid m c) (x0 := m ((c.tc : Thread Cert.KernelIdeal.nD Cert.KernelIdeal.τ).loc Cert.KernelIdeal.main_arg0))
    (x2 := m ((c.tc : Thread Cert.KernelIdeal.nD Cert.KernelIdeal.τ).loc Cert.KernelIdeal.main_arg2))
    (x4 := m ((c.tc : Thread Cert.KernelIdeal.nD Cert.KernelIdeal.τ).loc Cert.KernelIdeal.main_arg4)) b h ⟨q.val / 256, by omega⟩ ⟨q.val % 256, by omega⟩ d
  have eq : (⟨256 * (q.val / 256) + q.val % 256, by omega⟩ : Fin 12288) = q := Fin.ext (by show 256 * (q.val / 256) + q.val % 256 = q.val; omega)
  simp only [eq] at e
  refine Eq.trans ?_ e
  show outAt m c b h ⟨q.val / 256, _⟩ (ix4 0 0 ⟨q.val % 256, _⟩ d) = _
  unfold outAt keysAt valsAt
  rw [Cert.KernelIdeal.Gen.V_main_arg0, Cert.KernelIdeal.Gen.V_main_arg1, Cert.KernelIdeal.Gen.V_main_arg2, Cert.KernelIdeal.Gen.V_main_arg3, Cert.KernelIdeal.Gen.V_main_arg4]

/-- The shape relations the precondition's operations take. -/
theorem preFacts : Cert.Pre_scales_are_normal.Facts where
  bcast_S_S2x40x12288x4 := by decide
  bcast_S_S2x8x12288x4 := by decide
  bcast_S_S2x8x128x384 := by decide

/-- Where no scale's byte is zero or 255, the kernel and the reference both run, leave their arguments as they
    were, and end with one and the same result. -/
theorem algebraic [hp : Cert.Pre_scales_are_normal.Facts] : @Cert.algebraic_KernelIdeal_ReferenceIdeal_pre_scales_are_normal Cert.KernelIdeal.Gen.facts Cert.ReferenceIdeal.Gen.facts hp := by
  intro m g m' g' hpre hargs
  refine ⟨fun c => Cert.KernelIdeal.Value.result m c, ?_, ?_⟩
  · exact (θ_run _ _ _).mono (fun _ h c => ⟨h.1 c, h.2.1 c⟩) (θ_run_and (Cert.KernelIdeal.Value.run_result m g) (Cert.KernelIdeal.Hand.frame m g))
  · refine (θ_run _ _ _).mono (fun _ h c => ⟨(h.1 c).trans ?_, h.2 c⟩) (θ_run_and (Cert.ReferenceIdeal.Value.run_result m' g') (Cert.ReferenceIdeal.Gen.unchanged m' g'))
    obtain ⟨p1, p3, p5⟩ := hpre c
    obtain ⟨a0, a1, a2, a3, a4, a5⟩ := hargs c
    refine Eq.trans ?_ (result_eq m c (fun i => normal_of_bits _ (congrFun p1 i)) (fun i => normal_of_bits _ (congrFun p3 i)) (fun i => normal_of_bits _ (congrFun p5 i))).symm
    unfold Cert.ReferenceIdeal.Value.result
    rw [← a0, ← a1, ← a2, ← a3, ← a4, ← a5]

end Cert.Algebra

end
-- ==== Proof.lean ====
/- The claims of this certificate, assembled from the frames, the idealization's statement and the value proof. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.KernelIdealFrame
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The three names the idealized kernel prints for float constants, each the table's value at its word. -/
theorem preserves : Cert.preserves_Kernel_KernelIdeal :=
  ⟨IdealRules.named_const.statement Cert.KernelIdeal.κ "scale_log2e" .f32 0x3E0293EE#32 (((Real.sqrt 128)⁻¹ * (Real.log 2)⁻¹ : ℝ) : EReal) rfl,
    IdealRules.named_const.statement Cert.KernelIdeal.κ "masked" .f32 0xF149F2CA#32 ⊥ rfl,
    IdealRules.named_const.statement Cert.KernelIdeal.κ "inv_fp8_max" .f32 0x3B124925#32 ((1 / 448 : ℝ) : EReal) rfl⟩

/-- The certificate: the frames, with and without the precondition, the idealization's statement and the value claim. -/
theorem claim : Cert.Claim :=
  ⟨Cert.Kernel.Gen.facts, Cert.KernelIdeal.Gen.facts, Cert.ReferenceIdeal.Gen.facts, Cert.Algebra.preFacts,
    fun m g _ => Cert.Kernel.Hand.frame m g, fun m g _ => Cert.KernelIdeal.Hand.frame m g, fun m g _ => Cert.KernelIdeal.Hand.frame m g,
    fun m g _ => Cert.ReferenceIdeal.Gen.frame m g, fun m g _ => Cert.ReferenceIdeal.Gen.frame m g,
    preserves, Cert.Algebra.algebraic (hp := Cert.Algebra.preFacts)⟩

end Cert.Proof

end
